-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_vocabulary_KernelIdeal [hPre_finite_in_vocabulary_KernelIdeal : Cert.Pre_finite_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocabulary_ReferenceIdeal [hPre_finite_in_vocabulary_ReferenceIdeal : Cert.Pre_finite_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_vocabulary_KernelIdeal [hKernelIdeal : Cert.KernelIdeal.Facts] [hPre_finite_in_vocabulary_KernelIdeal : Cert.Pre_finite_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_vocabulary_ReferenceIdeal [hReferenceIdeal : Cert.ReferenceIdeal.Facts] [hPre_finite_in_vocabulary_ReferenceIdeal : Cert.Pre_finite_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_vocabulary_KernelIdeal [hKernelIdeal : Cert.KernelIdeal.Facts] [hReferenceIdeal : Cert.ReferenceIdeal.Facts] [hPre_finite_in_vocabulary_KernelIdeal : Cert.Pre_finite_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_vocabulary_KernelIdeal : Cert.Pre_finite_in_vocabulary_KernelIdeal.Facts) (hPre_finite_in_vocabulary_ReferenceIdeal : Cert.Pre_finite_in_vocabulary_ReferenceIdeal.Facts),
    quiescent_Kernel (hKernel := hKernel)
    ∧ quiescent_KernelIdeal (hKernelIdeal := hKernelIdeal)
    ∧ quiescent_KernelIdeal_pre_finite_in_vocabulary_KernelIdeal (hKernelIdeal := hKernelIdeal) (hPre_finite_in_vocabulary_KernelIdeal := hPre_finite_in_vocabulary_KernelIdeal)
    ∧ quiescent_ReferenceIdeal (hReferenceIdeal := hReferenceIdeal)
    ∧ quiescent_ReferenceIdeal_pre_finite_in_vocabulary_ReferenceIdeal (hReferenceIdeal := hReferenceIdeal) (hPre_finite_in_vocabulary_ReferenceIdeal := hPre_finite_in_vocabulary_ReferenceIdeal)
    ∧ preserves_Kernel_KernelIdeal
    ∧ algebraic_KernelIdeal_ReferenceIdeal_pre_finite_in_vocabulary_KernelIdeal (hKernelIdeal := hKernelIdeal) (hReferenceIdeal := hReferenceIdeal) (hPre_finite_in_vocabulary_KernelIdeal := hPre_finite_in_vocabulary_KernelIdeal)
-- ==== Pre_finite_in_vocabulary_KernelIdeal.lean ====
abbrev S2048x4096 : Shape := ⟨2, ![2048, 4096]⟩
abbrev S4096x8192 : Shape := ⟨2, ![4096, 8192]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)
  bcast_S_S2048 : S_.BroadcastsInDim S2048 (![] : Fin 0 → Fin S2048.rank)

variable [Facts]

def fn {F : FTy → Type} [FloatOps F] (main_arg0 : FVec F S2048x4096 .f32) (main_arg1 : FVec F S4096x8192 .f32) (main_arg2 : IVec S2048 32) : IVec S2048x4096 1 × IVec S4096x8192 1 × IVec S2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  let main_v10 : IVec S2048 1 := andi main_v7 main_v9
  (main_v2, main_v5, main_v10)
-- ==== Pre_finite_in_vocabulary_ReferenceIdeal.lean ====
abbrev S2048x4096 : Shape := ⟨2, ![2048, 4096]⟩
abbrev S4096x16384 : Shape := ⟨2, ![4096, 16384]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)
  bcast_S_S2048 : S_.BroadcastsInDim S2048 (![] : Fin 0 → Fin S2048.rank)

variable [Facts]

def fn {F : FTy → Type} [FloatOps F] (main_arg0 : FVec F S2048x4096 .f32) (main_arg1 : FVec F S4096x16384 .f32) (main_arg2 : IVec S2048 32) : IVec S2048x4096 1 × IVec S4096x16384 1 × IVec S2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x16384 .f32 := Host.absf main_arg1
  let main_cst_0 : FVec F S_ .f32 := constant S_ .f32 0x7F800000#32
  let main_v4 : FVec F S4096x16384 .f32 := broadcastInDim S4096x16384 ![] bcast_S_S4096x16384 main_cst_0
  let main_v5 : IVec S4096x16384 1 := cmpf .olt main_v3 main_v4
  let main_c : IVec S_ 32 := constantI S_ 32 0#32
  let main_v6 : IVec S2048 32 := broadcastInDim S2048 ![] bcast_S_S2048 main_c
  let main_v7 : IVec S2048 1 := cmpi .sge main_arg2 main_v6
  let main_c_1 : IVec S_ 32 := constantI S_ 32 16384#32
  let main_v8 : IVec S2048 32 := broadcastInDim S2048 ![] bcast_S_S2048 main_c_1
  let main_v9 : IVec S2048 1 := cmpi .slt main_arg2 main_v8
  let main_v10 : IVec S2048 1 := andi main_v7 main_v9
  (main_v2, main_v5, main_v10)
-- ==== Kernel.lean ====
abbrev S2048x4096 : Shape := ⟨2, ![2048, 4096]⟩
abbrev S4096x8192 : Shape := ⟨2, ![4096, 8192]⟩
abbrev S2048 : Shape := ⟨1, ![2048]⟩
abbrev S2048x1 : Shape := ⟨2, ![2048, 1]⟩
abbrev S_ : Shape := ⟨0, ![]⟩
abbrev S4096x2048 : Shape := ⟨2, ![4096, 2048]⟩
abbrev S4096x512 : Shape := ⟨2, ![4096, 512]⟩
abbrev S2048x512 : Shape := ⟨2, ![2048, 512]⟩
abbrev S4x2048x2 : Shape := ⟨3, ![4, 2048, 2]⟩
abbrev S3 : Shape := ⟨1, ![3]⟩
abbrev S2048x128 : Shape := ⟨2, ![2048, 128]⟩
abbrev S1x2048x1 : Shape := ⟨3, ![1, 2048, 1]⟩
abbrev S1 : Shape := ⟨1, ![1]⟩
abbrev S1x2048x2 : Shape := ⟨3, ![1, 2048, 2]⟩
abbrev S2048x2 : Shape := ⟨2, ![2048, 2]⟩

abbrev nBuf : Space → Nat
  | .hbm => 32
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048, .i32⟩
  | .hbm, ⟨3, _⟩ => ⟨S2048x1, .i32⟩
  | .hbm, ⟨4, _⟩ => ⟨S2048x4096, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4096x2048, .f32⟩
  | .hbm, ⟨29, _⟩ => ⟨S4096x2048, .bf16⟩
  | .hbm, ⟨30, _⟩ => ⟨S2048x1, .f32⟩
  | .hbm, ⟨31, _⟩ => ⟨S2048, .f32⟩
  | .local _ .vmem, ⟨0, _⟩ => ⟨S2048x4096, .bf16⟩
  | .local _ .vmem, ⟨1, _⟩ => ⟨S4096x512, .bf16⟩
  | .local _ .vmem, ⟨2, _⟩ => ⟨S4096x512, .bf16⟩
  | .local _ .vmem, ⟨3, _⟩ => ⟨S2048x1, .i32⟩
  | .local _ .vmem, ⟨4, _⟩ => ⟨S2048x1, .f32⟩
  | .local _ .vmem, ⟨5, _⟩ => ⟨S2048x512, .f32⟩
  | .local _ .vmem, ⟨6, _⟩ => ⟨S2048x512, .f32⟩
  | .local _ .vmem, ⟨7, _⟩ => ⟨S2048x1, .f32⟩
  | .local _ .vmem, ⟨8, _⟩ => ⟨S2048x1, .f32⟩
  | .local _ .vmem, ⟨9, _⟩ => ⟨S4x2048x2, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_v16 : Ref sig .tc := ⟨.hbm, 26, rfl⟩
abbrev main_c_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_7 : BitVec 32 := 0#32
  let v19 : BitVec 1 := Scalar.cmpi .ne v18 c0_i32_7
  v19

def k0_dev1 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_4 v2
  let c4_i32_22 : BitVec 32 := 4#32
  let v44 : BitVec 32 := Scalar.muli v14 c4_i32_22
  let v45 : BitVec 32 := Scalar.addi c0_i32_23 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v46 : BitVec 32 := Scalar.muli v5 c2_i32_24
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v48 : BitVec 32 := Scalar.muli v8 c1_i32_25
  let v49 : BitVec 32 := Scalar.addi v47 v48
  v49.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v50 : BitVec 32 := Scalar.muli v2 c4_i32_27
  let v51 : BitVec 32 := Scalar.addi c0_i32_28 v50
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_5 v5
  let c2_i32_29 : BitVec 32 := 2#32
  let v52 : BitVec 32 := Scalar.muli v15 c2_i32_29
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v54 : BitVec 32 := Scalar.muli v8 c1_i32_30
  let v55 : BitVec 32 := Scalar.addi v53 v54
  v55.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v56 : BitVec 32 := Scalar.muli v2 c4_i32_32
  let v57 : BitVec 32 := Scalar.addi c0_i32_33 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v58 : BitVec 32 := Scalar.muli v5 c2_i32_34
  let v59 : BitVec 32 := Scalar.addi v57 v58
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c1_i32_35 : BitVec 32 := 1#32
  let v60 : BitVec 32 := Scalar.muli v16 c1_i32_35
  let v61 : BitVec 32 := Scalar.addi v59 v60
  v61.toNat
def k0_cond6 (i : grid0.Coords) : BitVec 1 :=
  let arg0 : BitVec 32 := BitVec.ofNat 32 (i 0).val
  let c3_i32_15 : BitVec 32 := 3#32
  let v32 : BitVec 1 := Scalar.cmpi .eq arg0 c3_i32_15
  let v33 : BitVec 32 := Scalar.extui v32
  let c0_i32_16 : BitVec 32 := 0#32
  let v34 : BitVec 1 := Scalar.cmpi .ne v33 c0_i32_16
  v34

def k0_dev4 (d0 : Dev nD) : Nat :=
  let c0_i32_58 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_4 v2
  let c4_i32_57 : BitVec 32 := 4#32
  let v119 : BitVec 32 := Scalar.muli v14 c4_i32_57
  let v120 : BitVec 32 := Scalar.addi c0_i32_58 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v121 : BitVec 32 := Scalar.muli v5 c2_i32_59
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v123 : BitVec 32 := Scalar.muli v8 c1_i32_60
  let v124 : BitVec 32 := Scalar.addi v122 v123
  v124.toNat
def k0_dev5 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v163 : BitVec 32 := Scalar.muli v2 c4_i32_102
  let v164 : BitVec 32 := Scalar.addi c0_i32_103 v163
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_5 v5
  let c2_i32_104 : BitVec 32 := 2#32
  let v165 : BitVec 32 := Scalar.muli v15 c2_i32_104
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v167 : BitVec 32 := Scalar.muli v8 c1_i32_105
  let v168 : BitVec 32 := Scalar.addi v166 v167
  v168.toNat
def k0_dev6 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v207 : BitVec 32 := Scalar.muli v2 c4_i32_146
  let v208 : BitVec 32 := Scalar.addi c0_i32_147 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v209 : BitVec 32 := Scalar.muli v5 c2_i32_148
  let v210 : BitVec 32 := Scalar.addi v208 v209
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_6 v8
  let c1_i32_149 : BitVec 32 := 1#32
  let v211 : BitVec 32 := Scalar.muli v16 c1_i32_149
  let v212 : BitVec 32 := Scalar.addi v210 v211
  v212.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2048x4096 : Shape := ⟨2, ![2048, 4096]⟩
abbrev S4096x16384 : Shape := ⟨2, ![4096, 16384]⟩
abbrev S2048 : Shape := ⟨1, ![2048]⟩
abbrev S2048x16384 : Shape := ⟨2, ![2048, 16384]⟩
abbrev S_ : Shape := ⟨0, ![]⟩
abbrev S2048x1 : Shape := ⟨2, ![2048, 1]⟩
abbrev S2048x2 : Shape := ⟨2, ![2048, 2]⟩

abbrev nBuf : Space → Nat
  | .hbm => 36
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048, .i32⟩
  | .hbm, ⟨3, _⟩ => ⟨S2048x16384, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x16384, .f32⟩
  | .hbm, ⟨8, _⟩ => ⟨S2048x16384, .f32⟩
  | .hbm, ⟨9, _⟩ => ⟨S2048x16384, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048, .f32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048x1, .i32⟩
  | .hbm, ⟨33, _⟩ => ⟨S2048x2, .i32⟩
  | .hbm, ⟨34, _⟩ => ⟨S2048, .f32⟩
  | .hbm, ⟨35, _⟩ => ⟨S2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Proto.lean ====
/-
# The exchange protocol of the kernel, written down as a schedule

Eight devices, numbered `4x + 2y + z`. In round `k` (k = 0, 1, 2) device `c` talks with ONE partner, `pr k c`: the device that
differs from it in mesh axis `k` only. Who signals, who copies, who waits, and what is handed over:

* BARRIER cell of `c` (the runtime's, unscoped): three duties, one unit each; duty `k` is paid by partner `pr k c` at its first
  grid point and hands `c` the partner's landing slot `k` (at any contents) and the knowledge that the partner's receive cell
  `k` is open. `c` waits for all three units before it computes anything.
* SEND cell `k` of `c`: one duty, paid by `c`'s own copy of stage `k` when the source has been read; hands slot 0 back.
* RECEIVE cell `k` of `c`: one duty, paid by partner `pr k c`'s copy of stage `k`; hands `c` its landing slot `k` holding what
  the partner had in slot 0 at that stage (`P k (pr k c)`).

The four slots are the four leading-axis rows of the exchange buffer: row 0 is sent, row `k + 1` lands round `k`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duties: the three rounds) -/

/-- The ghost state of the exchange. -/
abbrev UB : Type := URounds (GSem nD τ sig) (Fin 3)
/-- The ghost state of the pipeline and of the exchange. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

/-! ## Partners -/

/-- The partner of device `c` in round `k`: mesh axis `k` flipped. -/
def pr (k : Fin 3) (c : Dev nD) : Dev nD :=
  match k with
  | 0 => ⟨(c.val + 4) % 8, Nat.mod_lt _ (by decide)⟩
  | 1 => ⟨4 * (c.val / 4) + (c.val % 4 + 2) % 4, by have := c.isLt; change c.val < 8 at this; show _ < 8; omega⟩
  | 2 => ⟨2 * (c.val / 2) + (c.val % 2 + 1) % 2, by have := c.isLt; change c.val < 8 at this; show _ < 8; omega⟩

/-- A partner's partner is the device itself. -/
theorem pr_pr (k : Fin 3) (c : Dev nD) : pr k (pr k c) = c := by revert k c; decide
/-- The three partners of a device differ. -/
theorem pr_inj (c : Dev nD) {k k' : Fin 3} (h : pr k c = pr k' c) : k = k' := by revert k k' c; decide

/-- Going to the partner is a bijection of the devices. -/
def prEquiv (k : Fin 3) : Dev nD ≃ Dev nD := ⟨pr k, pr k, pr_pr k, pr_pr k⟩

/-- The first device that is signalled is the partner along x. -/
theorem dev1_eq (c : Dev nD) (h : k0_dev1 c < nD) : (⟨k0_dev1 c, h⟩ : Dev nD) = pr 0 c := Fin.ext (show k0_dev1 c = _ by revert c; decide)
/-- The second device that is signalled is the partner along y. -/
theorem dev2_eq (c : Dev nD) (h : k0_dev2 c < nD) : (⟨k0_dev2 c, h⟩ : Dev nD) = pr 1 c := Fin.ext (show k0_dev2 c = _ by revert c; decide)
/-- The third device that is signalled is the partner along z. -/
theorem dev3_eq (c : Dev nD) (h : k0_dev3 c < nD) : (⟨k0_dev3 c, h⟩ : Dev nD) = pr 2 c := Fin.ext (show k0_dev3 c = _ by revert c; decide)
/-- The target of the first copy is the partner along x. -/
theorem dev4_eq (c : Dev nD) (h : k0_dev4 c < nD) : (⟨k0_dev4 c, h⟩ : Dev nD) = pr 0 c := Fin.ext (show k0_dev4 c = _ by revert c; decide)
/-- The target of the second copy is the partner along y. -/
theorem dev5_eq (c : Dev nD) (h : k0_dev5 c < nD) : (⟨k0_dev5 c, h⟩ : Dev nD) = pr 1 c := Fin.ext (show k0_dev5 c = _ by revert c; decide)
/-- The target of the third copy is the partner along z. -/
theorem dev6_eq (c : Dev nD) (h : k0_dev6 c < nD) : (⟨k0_dev6 c, h⟩ : Dev nD) = pr 2 c := Fin.ext (show k0_dev6 c = _ by revert c; decide)

/-! ## The slots of the exchange buffer, and the cells -/

/-- The exchange buffer. -/
abbrev cM : Memref sig .tc .vmem S4x2048x2 .f32 := Memref.whole cc0_scratch4

/-- The rectangles of its four rows. -/
abbrev row0 : Rect S4x2048x2 := Rect.unit (s := S4x2048x2) ![0, 0, 0] S1x2048x2.size inb_S4x2048x2_S1x2048x2_0_0_0
/-- Row 1 of the exchange buffer. -/
abbrev row1 : Rect S4x2048x2 := Rect.unit (s := S4x2048x2) ![1, 0, 0] S1x2048x2.size inb_S4x2048x2_S1x2048x2_1_0_0
/-- Row 2 of the exchange buffer. -/
abbrev row2 : Rect S4x2048x2 := Rect.unit (s := S4x2048x2) ![2, 0, 0] S1x2048x2.size inb_S4x2048x2_S1x2048x2_2_0_0
/-- Row 3 of the exchange buffer. -/
abbrev row3 : Rect S4x2048x2 := Rect.unit (s := S4x2048x2) ![3, 0, 0] S1x2048x2.size inb_S4x2048x2_S1x2048x2_3_0_0

/-- The memrefs of the four rows, as the copies name them. -/
abbrev slot0 : Memref sig .tc .vmem S2048x2 .f32 := (cM.slice row0 (fun _ => rfl)).squeeze S2048x2 squeezes_S1x2048x2_S2048x2
/-- Where the first round lands. -/
abbrev slot1 : Memref sig .tc .vmem S2048x2 .f32 := (cM.slice row1 (fun _ => rfl)).squeeze S2048x2 squeezes_S1x2048x2_S2048x2
/-- Where the second round lands. -/
abbrev slot2 : Memref sig .tc .vmem S2048x2 .f32 := (cM.slice row2 (fun _ => rfl)).squeeze S2048x2 squeezes_S1x2048x2_S2048x2
/-- Where the third round lands. -/
abbrev slot3 : Memref sig .tc .vmem S2048x2 .f32 := (cM.slice row3 (fun _ => rfl)).squeeze S2048x2 squeezes_S1x2048x2_S2048x2

/-- The row that lands round `k`. -/
abbrev rowL : Fin 3 → Rect S4x2048x2 := fun | 0 => row1 | 1 => row2 | 2 => row3
/-- Its memref. -/
abbrev slotL : Fin 3 → Memref sig .tc .vmem S2048x2 .f32 := fun | 0 => slot1 | 1 => slot2 | 2 => slot3

/-- The barrier semaphore. -/
abbrev barS : Sem sig := (SemArray.scalar (sig.barrier 0 rfl) : Sems sig S_).sem
/-- The send semaphores. -/
abbrev sendS : Fin 3 → DmaSem sig := fun | 0 => 5 | 1 => 6 | 2 => 7
/-- The receive semaphores. -/
abbrev recvS : Fin 3 → DmaSem sig := fun | 0 => 8 | 1 => 9 | 2 => 10

/-- The barrier cell of a device. -/
abbrev barCell (c : Dev nD) : GSem nD τ sig := ((c : Thread nD τ), .reg barS)
/-- The send cell of a device in round k. -/
abbrev sendCell (k : Fin 3) (c : Dev nD) : GSem nD τ sig := ((c : Thread nD τ), .dma (sendS k))
/-- The receive cell of a device in round k. -/
abbrev recvCell (k : Fin 3) (c : Dev nD) : GSem nD τ sig := ((c : Thread nD τ), .dma (recvS k))

/-- What one copy of a slot moves, in the units its semaphores count. -/
abbrev N : ℕ := (slot0 : Memref sig .tc .vmem S2048x2 .f32).view.dmaCredit
/-- A copy credits something. -/
theorem N_pos : 0 < N := View.dmaCredit_pos _ (by decide)

/-- What a slot holds: a row of the exchange buffer. -/
abbrev Box (F : FTy → Type) : Type := S1x2048x2.Idx → F .f32

/-- What a landing row reads as in contents `f` of the exchange buffer. -/
def boxL (k : Fin 3) (f : cc0_scratch4.ty.Contents (Elt F)) : Box F :=
  match k with
  | 0 => cM.view.readAt (Elt F) row1.toLoadRect f
  | 1 => cM.view.readAt (Elt F) row2.toLoadRect f
  | 2 => cM.view.readAt (Elt F) row3.toLoadRect f
/-- What row 0 reads as. -/
def box0 (f : cc0_scratch4.ty.Contents (Elt F)) : Box F := cM.view.readAt (Elt F) row0.toLoadRect f

/-- The elements of the exchange buffer in row 0, and in landing row `k`. -/
abbrev set0 : Finset (cc0_scratch4 : Ref sig .tc).ty.shape.Idx := slot0.view.set
/-- The indices of the row in which round k lands. -/
abbrev setL (k : Fin 3) : Finset (cc0_scratch4 : Ref sig .tc).ty.shape.Idx :=
  match k with
  | 0 => slot1.view.set
  | 1 => slot2.view.set
  | 2 => slot3.view.set

/-- Row 0 of device `c`'s exchange buffer, held at contents `f`. -/
def pts0 (c : Dev nD) (f : Buf (Elt F) ((c : Thread nD τ).loc cc0_scratch4)) : sProp 𝕄 :=
  (c : Thread nD τ).loc cc0_scratch4 ↦[set0]{fullShare} f
/-- Its landing row `k`, held at contents `f`. -/
def ptsL (k : Fin 3) (c : Dev nD) (f : Buf (Elt F) ((c : Thread nD τ).loc cc0_scratch4)) : sProp 𝕄 :=
  (c : Thread nD τ).loc cc0_scratch4 ↦[setL k]{fullShare} f

omit [FloatOps F] in
instance pts0_storable (c : Dev nD) (f) : BI.Storable (upEmb : UEmb _ 𝕄) (pts0 (F := F) c f) := by unfold pts0; infer_instance
omit [FloatOps F] in
instance ptsL_storable (k : Fin 3) (c : Dev nD) (f) : BI.Storable (upEmb : UEmb _ 𝕄) (ptsL (F := F) k c f) := by unfold ptsL; infer_instance

/-! ## The schedule -/

variable (P : Fin 3 → Dev nD → Box F)

/-- Handed to `c` at its barrier by its partner of round `k`. -/
def barPay (k : Fin 3) (c : Dev nD) : sProp 𝕄 := iprop((∃ f, ptsL k (pr k c) f) ∗ reached ER (recvCell k (pr k c)) 0)
/-- Handed back to `c` by its own copy: row 0. -/
def sendPay (c : Dev nD) : sProp 𝕄 := iprop(∃ f, pts0 c f)
/-- Handed to `c` by its partner's copy of round `k`: the landing row, holding what the partner sent. -/
def recvPay (k : Fin 3) (c : Dev nD) : sProp 𝕄 := iprop(∃ f, ⌜boxL k f = P k (pr k c)⌝ ∗ ptsL k c f)

/-- The round a DMA cell of the exchange belongs to. -/
def isSend (sm : SemLoc sig) : Prop := ∃ k, sm = .dma (sendS k)
/-- The round of a receive semaphore. -/
def recvIx (sm : SemLoc sig) : Option (Fin 3) := if sm = .dma (recvS 0) then some 0 else if sm = .dma (recvS 1) then some 1 else if sm = .dma (recvS 2) then some 2 else none

instance (sm : SemLoc sig) : Decidable (isSend sm) := by unfold isSend; infer_instance

/-- The schedule of the exchange: one round on every cell. -/
def exRd : Rounds.Schedule (GSem nD τ sig) (Fin 3) 𝕄 where
  duties g r := if r = 0 ∧ g.1.2 = .tc then
      (if g.2 = .reg barS then {0, 1, 2} else if isSend g.2 ∨ (recvIx g.2).isSome then {0} else ∅) else ∅
  unitless _ := False
  amount g _ _ := if g.2 = .reg barS then 1 else N
  payload g _ d :=
    if g.2 = .reg barS then barPay d g.1.1
    else if isSend g.2 then sendPay g.1.1
    else match recvIx g.2 with
      | some k => recvPay P k g.1.1
      | none => iprop(emp)
  amount_pos g _ _ _ := by
    by_cases h : g.2 = .reg barS
    · rw [if_pos h]; exact Nat.one_pos
    · rw [if_neg h]; exact N_pos

instance exRd_payload_storable (g : GSem nD τ sig) (r : ℕ) (d : Fin 3) :
    BI.Storable (upEmb : UEmb _ 𝕄) ((exRd (F := F) P).payload g r d) := by
  show BI.Storable upEmb (if g.2 = .reg barS then barPay d g.1.1 else if isSend g.2 then sendPay g.1.1
    else match recvIx g.2 with | some k => recvPay P k g.1.1 | none => iprop(emp))
  unfold barPay sendPay recvPay
  (repeat' split) <;> infer_instance

section Sched

variable (c : Dev nD) (k : Fin 3)

/-- A send semaphore is not the barrier. -/
theorem send_ne_bar : (SemLoc.dma (sendS k) : SemLoc sig) ≠ .reg barS := fun h => by cases h
/-- A receive semaphore is not the barrier. -/
theorem recv_ne_bar : (SemLoc.dma (recvS k) : SemLoc sig) ≠ .reg barS := fun h => by cases h
/-- A send semaphore is one. -/
theorem isSend_send : isSend (SemLoc.dma (sendS k) : SemLoc sig) := ⟨k, rfl⟩
/-- A receive semaphore is no send semaphore. -/
theorem not_isSend_recv : ¬ isSend (SemLoc.dma (recvS k) : SemLoc sig) := by revert k; decide
/-- The round of the receive semaphore of round k is k. -/
theorem recvIx_recv : recvIx (SemLoc.dma (recvS k) : SemLoc sig) = some k := by revert k; decide

/-- The barrier has three duties. -/
theorem duties_bar : (exRd (F := F) P).duties (barCell c) 0 = {0, 1, 2} := by dsimp only [exRd]; rw [if_pos ⟨rfl, rfl⟩, if_pos rfl]
/-- A send cell has one duty. -/
theorem duties_send : (exRd (F := F) P).duties (sendCell k c) 0 = {0} := by
  dsimp only [exRd]; rw [if_pos ⟨rfl, rfl⟩, if_neg (send_ne_bar k), if_pos (.inl (isSend_send k))]
/-- A receive cell has one duty. -/
theorem duties_recv : (exRd (F := F) P).duties (recvCell k c) 0 = {0} := by
  dsimp only [exRd]; rw [if_pos ⟨rfl, rfl⟩, if_neg (recv_ne_bar k), if_pos (.inr (by rw [recvIx_recv]; rfl))]
/-- No cell has a duty after the first round. -/
theorem duties_later (g : GSem nD τ sig) : ∀ r, 1 ≤ r → (exRd (F := F) P).duties g r = ∅ :=
  fun r hr => by dsimp only [exRd]; rw [if_neg (fun h => by omega)]

/-- A signal is worth one. -/
theorem amount_bar (d : Fin 3) : (exRd (F := F) P).amount (barCell c) 0 d = 1 := by dsimp only [exRd]; exact if_pos rfl
/-- A send is worth one copy. -/
theorem amount_send (d : Fin 3) : (exRd (F := F) P).amount (sendCell k c) 0 d = N := by dsimp only [exRd]; exact if_neg (send_ne_bar k)
/-- A landing is worth one copy. -/
theorem amount_recv (d : Fin 3) : (exRd (F := F) P).amount (recvCell k c) 0 d = N := by dsimp only [exRd]; exact if_neg (recv_ne_bar k)

/-- The barrier waits for three. -/
theorem expect_bar : (exRd (F := F) P).expect (barCell c) 0 = 3 := by
  unfold Schedule.expect Schedule.amountOf; rw [duties_bar]; simp only [amount_bar]; decide
/-- A send cell waits for one copy. -/
theorem expect_send : (exRd (F := F) P).expect (sendCell k c) 0 = N := by
  unfold Schedule.expect Schedule.amountOf; rw [duties_send, Finset.sum_singleton, amount_send]
/-- A receive cell waits for one copy. -/
theorem expect_recv : (exRd (F := F) P).expect (recvCell k c) 0 = N := by
  unfold Schedule.expect Schedule.amountOf; rw [duties_recv, Finset.sum_singleton, amount_recv]

/-- What a signal hands over. -/
theorem payload_bar (d : Fin 3) : (exRd (F := F) P).payload (barCell c) 0 d = barPay d c := by dsimp only [exRd]; exact if_pos rfl
/-- What a finished send hands over. -/
theorem payload_send (d : Fin 3) : (exRd (F := F) P).payload (sendCell k c) 0 d = sendPay c := by
  dsimp only [exRd]; rw [if_neg (send_ne_bar k), if_pos (isSend_send k)]
/-- What a landing hands over. -/
theorem payload_recv (d : Fin 3) : (exRd (F := F) P).payload (recvCell k c) 0 d = recvPay P k c := by
  dsimp only [exRd]; rw [if_neg (recv_ne_bar k), if_neg (not_isSend_recv k), recvIx_recv]

/-- All that the barrier hands over. -/
theorem rest_bar : bigSep ((exRd (F := F) P).duties (barCell c) 0 \ ∅) (fun d => (exRd (F := F) P).payload (barCell c) 0 d)
    = iprop(barPay 0 c ∗ barPay 1 c ∗ barPay 2 c) := by
  rw [Finset.sdiff_empty, duties_bar, bigSep_eq_bigSepL_of_eq [0, 1, 2] (by decide) (by decide)]
  simp only [payload_bar]; rfl
/-- All that a send cell hands over. -/
theorem rest_send : bigSep ((exRd (F := F) P).duties (sendCell k c) 0 \ ∅) (fun d => (exRd (F := F) P).payload (sendCell k c) 0 d) = sendPay c := by
  rw [Finset.sdiff_empty, duties_send, bigSep_singleton, payload_send]
/-- All that a receive cell hands over. -/
theorem rest_recv : bigSep ((exRd (F := F) P).duties (recvCell k c) 0 \ ∅) (fun d => (exRd (F := F) P).payload (recvCell k c) 0 d) = recvPay P k c := by
  rw [Finset.sdiff_empty, duties_recv, bigSep_singleton, payload_recv]

end Sched

/-! ## What each device owes, and the levels -/

/-- What device `c` still owes of its copies once the copies of the rounds before `n` have been issued. -/
def owedR (c : Dev nD) : ℕ → CellTallies nD τ sig Unit
  | 0 => (((0 : CellTallies nD τ sig Unit) + tallyAt (recvCell 2 (pr 2 c)) () N) + tallyAt (recvCell 1 (pr 1 c)) () N) + tallyAt (recvCell 0 (pr 0 c)) () N
  | 1 => ((0 : CellTallies nD τ sig Unit) + tallyAt (recvCell 2 (pr 2 c)) () N) + tallyAt (recvCell 1 (pr 1 c)) () N
  | 2 => (0 : CellTallies nD τ sig Unit) + tallyAt (recvCell 2 (pr 2 c)) () N
  | _ => 0

/-- What it owes at launch: the copies and a unit to each partner's barrier. -/
def O₀ (c : Dev nD) : CellTallies nD τ sig Unit :=
  ((owedR c 0 + tallyAt (barCell (pr 2 c)) () 1) + tallyAt (barCell (pr 1 c)) () 1) + tallyAt (barCell (pr 0 c)) () 1

/-- Levels are given on the TensorCore cells. -/
def L (g : GSem nD τ sig) : Finset Unit := if g.1.2 = .tc then {()} else ∅
/-- barrier cells at 1, receive cell of round `k` at `2 + k`, the rest at 0. -/
def lv (g : GSem nD τ sig) (_ : Unit) : ℕ :=
  if g.2 = .reg barS then 1 else match recvIx g.2 with | some k => 2 + k.val | none => 0

/-- No levels elsewhere. -/
theorem L_of_ne (g : GSem nD τ sig) (h : g.1.2 ≠ .tc) : L g = ∅ := if_neg h
/-- The levels of a TensorCore cell. -/
theorem L_tc (c : Dev nD) (sm : SemLoc sig) : L ((c : Thread nD τ), sm) = {()} := if_pos rfl
/-- The barrier is at level 1. -/
theorem lv_bar (c : Dev nD) (u : Unit) : lv (barCell c) u = 1 := if_pos rfl
/-- The receive cell of round k is at level k + 2. -/
theorem lv_recv (k : Fin 3) (c : Dev nD) (u : Unit) : lv (recvCell k c) u = 2 + k.val := by
  dsimp only [lv]; rw [if_neg (recv_ne_bar k), recvIx_recv]
/-- The send cells are at level 0. -/
theorem lv_send (k : Fin 3) (c : Dev nD) (u : Unit) : lv (sendCell k c) u = 0 := by
  dsimp only [lv]; rw [if_neg (send_ne_bar k), show recvIx (SemLoc.dma (sendS k) : SemLoc sig) = none from by revert k; decide]

/-- A tally at one cell is positive there only. -/
theorem tally_pos {g g' : GSem nD τ sig} {n : ℕ} {u : Unit} (h : 0 < (tallyAt g' () n : CellTallies nD τ sig Unit) g u) : g = g' := by
  rw [tallyAt_apply] at h
  by_cases hh : g = g' ∧ u = ()
  · exact hh.1
  · rw [if_neg hh] at h; exact absurd h (Nat.lt_irrefl 0)

/-- What is owed of the copies from round `n` on sits at receive cells of rounds `n` and later. -/
theorem owedR_pos (c : Dev nD) (n : ℕ) {g : GSem nD τ sig} {u : Unit} (h : 0 < owedR c n g u) :
    ∃ k : Fin 3, n ≤ k.val ∧ g = recvCell k (pr k c) := by
  match n with
  | 0 =>
    simp only [owedR, Pi.add_apply, Finsupp.add_apply] at h
    have : 0 < (tallyAt (recvCell 2 (pr 2 c)) () N : CellTallies nD τ sig Unit) g u ∨ 0 < (tallyAt (recvCell 1 (pr 1 c)) () N : CellTallies nD τ sig Unit) g u
      ∨ 0 < (tallyAt (recvCell 0 (pr 0 c)) () N : CellTallies nD τ sig Unit) g u := by
      simp only [Pi.zero_apply, Finsupp.zero_apply] at h; omega
    rcases this with h | h | h
    · exact ⟨2, by decide, tally_pos h⟩
    · exact ⟨1, by decide, tally_pos h⟩
    · exact ⟨0, by decide, tally_pos h⟩
  | 1 =>
    simp only [owedR, Pi.add_apply, Finsupp.add_apply] at h
    have : 0 < (tallyAt (recvCell 2 (pr 2 c)) () N : CellTallies nD τ sig Unit) g u ∨ 0 < (tallyAt (recvCell 1 (pr 1 c)) () N : CellTallies nD τ sig Unit) g u := by
      simp only [Pi.zero_apply, Finsupp.zero_apply] at h; omega
    rcases this with h | h
    · exact ⟨2, by decide, tally_pos h⟩
    · exact ⟨1, by decide, tally_pos h⟩
  | 2 =>
    simp only [owedR, Pi.add_apply, Finsupp.add_apply] at h
    have h : 0 < (tallyAt (recvCell 2 (pr 2 c)) () N : CellTallies nD τ sig Unit) g u := by
      simp only [Pi.zero_apply, Finsupp.zero_apply] at h; omega
    exact ⟨2, by decide, tally_pos h⟩
  | n + 3 => exact absurd h (Nat.lt_irrefl 0)

/-- A wait at a cell of level below `2 + n` is allowed while the copies from round `n` on are owed. -/
theorem mayWait_owed (c : Dev nD) (sm : SemLoc sig) (n : ℕ) (hlv : lv ((c : Thread nD τ), sm) () < 2 + n) :
    (levAts L lv : sProp 𝕄) ⊢ MayWait (c : Thread nD τ) sm () (owedR c n) :=
  MayOwe.of_cut (L := L) (lev := lv) (1 + n) (fun p hp => by rw [Finset.mem_singleton.mp hp, L_tc]; exact Finset.mem_singleton_self _)
    (fun g u hg => by obtain ⟨k, -, rfl⟩ := owedR_pos c n hg; rw [L_tc]; exact Finset.mem_singleton_self _)
    (fun p hp => by rw [Finset.mem_singleton.mp hp]; dsimp only; omega)
    (fun g u hg => by obtain ⟨k, hk, rfl⟩ := owedR_pos c n hg; rw [lv_recv]; omega)

/-- Everything owed at launch sits on the tensor core, above level 0. -/
theorem O₀_pos (c : Dev nD) {g : GSem nD τ sig} {u : Unit} (h : 0 < O₀ c g u) : u ∈ L g ∧ 0 < lv g u := by
  have : 0 < owedR c 0 g u ∨ 0 < (tallyAt (barCell (pr 2 c)) () 1 : CellTallies nD τ sig Unit) g u
      ∨ 0 < (tallyAt (barCell (pr 1 c)) () 1 : CellTallies nD τ sig Unit) g u ∨ 0 < (tallyAt (barCell (pr 0 c)) () 1 : CellTallies nD τ sig Unit) g u := by
    simp only [O₀, Pi.add_apply, Finsupp.add_apply] at h; omega
  rcases this with h | h | h | h
  · obtain ⟨k, -, rfl⟩ := owedR_pos c 0 h
    exact ⟨by rw [L_tc]; exact Finset.mem_singleton_self _, by rw [lv_recv]; omega⟩
  all_goals
    rw [tally_pos h]
    exact ⟨by rw [L_tc]; exact Finset.mem_singleton_self _, by rw [lv_bar]; exact Nat.one_pos⟩

/-- Whatever a device still owes has a positive level. -/
theorem owedR_pos' (c : Dev nD) (n : ℕ) {g : GSem nD τ sig} {u : Unit} (h : 0 < owedR c n g u) : u ∈ L g ∧ 0 < lv g u := by
  obtain ⟨k, -, rfl⟩ := owedR_pos c n h
  exact ⟨by rw [L_tc]; exact Finset.mem_singleton_self _, by rw [lv_recv]; omega⟩

end Cert.Run

end
-- ==== Proof.Values.lean ====
/-
# What the kernel computes, point by point

The kernel's own payload functions, composed: what each grid point leaves in the two logits buffers and in the two running
sums, what the last point makes of them before the exchange, and what the exchange makes of eight devices' pairs.
-/
module

public import proofs.«01_k».proof.Proof.Proto

@[expose] public section

noncomputable section

namespace Cert.Run

open Cert.KernelIdeal Cert.KernelIdeal.Gen

open Idealize.ShloMosaic
open Idealize.ShloMosaic.TcCoe

variable {F : FTy → Type} [FloatOps F]

/-! ## Whole buffers read and rewritten -/

section Whole

variable {sp : Space} {Val : EltTy → Type}

/-- A buffer whose latest store covers it holds what was stored. -/
theorem writes_full (b : Ref sig .tc) {off : Fin b.ty.shape.rank → ℕ} (h : off = fun _ => 0)
    (inb : ∀ a, off a + b.ty.shape.size a ≤ b.ty.shape.size a) (f : b.ty.Contents Val)
    (w : (Rect.unit off b.ty.shape.size inb).shape.Idx → Val b.ty.elt) (L : List (View.Piece Val b.ty.shape b.ty.elt)) :
    (Memref.whole b).view.writes Val f (⟨Rect.unit off b.ty.shape.size inb, w⟩ :: L) = w := by
  subst h; exact Memref.write_access_whole_univ Val b _ w

/-- A load of the whole of a memref reads it. -/
theorem readAt_full {S : Shape} {e : EltTy} (M : Memref sig .tc sp S e) {off : Fin S.rank → ℕ} (h : off = fun _ => 0)
    (inb : ∀ a, off a + S.size a ≤ S.size a) (f : M.view.ty.Contents Val) :
    M.view.readAt Val (Rect.unit off S.size inb).toLoadRect f = M.view.read Val f := by
  subst h
  refine funext fun x => ?_
  exact congrArg (M.view.read Val f) (funext fun a => Fin.ext (by show 0 + 1 * (x a).val = (x a).val; omega))

/-- A load of the whole of a memref just after a store of the whole gives what was stored. -/
theorem readCov_full [∀ e, Nonempty (Val e)] {S : Shape} {e : EltTy} (M : Memref sig .tc sp S e) {off : Fin S.rank → ℕ}
    (inb : ∀ a, off a + S.size a ≤ S.size a) (w : (Rect.unit off S.size inb).shape.Idx → Val e) (L : List (View.Piece Val S e)) :
    M.view.readCov (⟨Rect.unit off S.size inb, w⟩ :: L) (Rect.unit off S.size inb).toLoadRect = w := by
  unfold View.readCov
  rw [View.writes_cons]
  exact View.read_write_univ _ _

/-- The origin. -/
theorem zero2 : (![0, 0] : Fin 2 → ℕ) = fun _ => 0 := by decide

/-- The first product buffer, after a whole store. -/
theorem writes_a (inb) (f : Vec F S2048x512 .f32) (w : Vec F S2048x512 .f32) (L) :
    (Memref.whole cc0_scratch0 : Memref sig .tc .vmem S2048x512 .f32).view.writes (Elt F) f (⟨Rect.unit ![0, 0] S2048x512.size inb, w⟩ :: L) = w :=
  writes_full cc0_scratch0 zero2 inb f w L
/-- The second product buffer, after a whole store. -/
theorem writes_b (inb) (f : Vec F S2048x512 .f32) (w : Vec F S2048x512 .f32) (L) :
    (Memref.whole cc0_scratch1 : Memref sig .tc .vmem S2048x512 .f32).view.writes (Elt F) f (⟨Rect.unit ![0, 0] S2048x512.size inb, w⟩ :: L) = w :=
  writes_full cc0_scratch1 zero2 inb f w L
/-- The buffer of the sums, read after a whole store. -/
theorem cov_s (inb) (w : Vec F S2048x1 .f32) (L) :
    (Memref.whole cc0_scratch2 : Memref sig .tc .vmem S2048x1 .f32).view.readCov (Val := Elt F) (⟨Rect.unit ![0, 0] S2048x1.size inb, w⟩ :: L)
      (Rect.unit ![0, 0] S2048x1.size inb).toLoadRect = w := readCov_full _ _ _ _
/-- The buffer of the label logits, read after a whole store. -/
theorem cov_l (inb) (w : Vec F S2048x1 .f32) (L) :
    (Memref.whole cc0_scratch3 : Memref sig .tc .vmem S2048x1 .f32).view.readCov (Val := Elt F) (⟨Rect.unit ![0, 0] S2048x1.size inb, w⟩ :: L)
      (Rect.unit ![0, 0] S2048x1.size inb).toLoadRect = w := readCov_full _ _ _ _
/-- The buffer of the sums, read whole. -/
theorem read_s (inb) (f : Vec F S2048x1 .f32) :
    (Memref.whole cc0_scratch2 : Memref sig .tc .vmem S2048x1 .f32).view.readAt (Elt F) (Rect.unit ![0, 0] S2048x1.size inb).toLoadRect f = f :=
  Memref.readAt_unit_zero (Elt F) cc0_scratch2 zero2 inb f
/-- The buffer of the label logits, read whole. -/
theorem read_l (inb) (f : Vec F S2048x1 .f32) :
    (Memref.whole cc0_scratch3 : Memref sig .tc .vmem S2048x1 .f32).view.readAt (Elt F) (Rect.unit ![0, 0] S2048x1.size inb).toLoadRect f = f :=
  Memref.readAt_unit_zero (Elt F) cc0_scratch3 zero2 inb f
/-- The buffer of the sums, after a whole store. -/
theorem writes_s (inb) (f : Vec F S2048x1 .f32) (w : Vec F S2048x1 .f32) (L) :
    (Memref.whole cc0_scratch2 : Memref sig .tc .vmem S2048x1 .f32).view.writes (Elt F) f (⟨Rect.unit ![0, 0] S2048x1.size inb, w⟩ :: L) = w :=
  writes_full cc0_scratch2 zero2 inb f w L
/-- The buffer of the label logits, after a whole store. -/
theorem writes_l (inb) (f : Vec F S2048x1 .f32) (w : Vec F S2048x1 .f32) (L) :
    (Memref.whole cc0_scratch3 : Memref sig .tc .vmem S2048x1 .f32).view.writes (Elt F) f (⟨Rect.unit ![0, 0] S2048x1.size inb, w⟩ :: L) = w :=
  writes_full cc0_scratch3 zero2 inb f w L

end Whole

/-- The word of the first vocabulary column of device `d`, as the body computes it from the device's number. -/
def baseWord (d : Dev nD) : BitVec 32 :=
  Scalar.addi (Scalar.muli (Scalar.remsi (Scalar.divsi (Dev.word d) 1#32) 2#32) 8192#32)
    (Scalar.muli (Scalar.addi (Scalar.muli (Scalar.remsi (Scalar.divsi (Dev.word d) 4#32) 2#32) 2#32) (Scalar.remsi (Scalar.divsi (Dev.word d) 2#32) 2#32)) 2048#32)

/-- The four 128-column blocks of a 2048 × 512 buffer of logits. -/
abbrev colR0 : Rect S2048x512 := Rect.unit (s := S2048x512) ![0, 0] S2048x128.size inb_S2048x512_S2048x128_0_0
/-- The second 128 columns. -/
abbrev colR1 : Rect S2048x512 := Rect.unit (s := S2048x512) ![0, 128] S2048x128.size inb_S2048x512_S2048x128_0_128
/-- The third 128 columns. -/
abbrev colR2 : Rect S2048x512 := Rect.unit (s := S2048x512) ![0, 256] S2048x128.size inb_S2048x512_S2048x128_0_256
/-- The last 128 columns. -/
abbrev colR3 : Rect S2048x512 := Rect.unit (s := S2048x512) ![0, 384] S2048x128.size inb_S2048x512_S2048x128_0_384

/-- The first 128 columns of a product. -/
def col0 (A : FVec F S2048x512 .f32) : FVec F S2048x128 .f32 := fun i => A (colR0.emb i)
/-- The second 128 columns of a product. -/
def col1 (A : FVec F S2048x512 .f32) : FVec F S2048x128 .f32 := fun i => A (colR1.emb i)
/-- The third 128 columns of a product. -/
def col2 (A : FVec F S2048x512 .f32) : FVec F S2048x128 .f32 := fun i => A (colR2.emb i)
/-- The last 128 columns of a product. -/
def col3 (A : FVec F S2048x512 .f32) : FVec F S2048x128 .f32 := fun i => A (colR3.emb i)

section Consume

variable (v : BitVec 32) (A : FVec F S2048x512 .f32) (lab : Vec F S2048x1 .i32) (s l : FVec F S2048x1 .f32)

/-- Point 1: the running sum of exponentials after the logits `A` of point 0. -/
def sum1 : FVec F S2048x1 .f32 := k0_pay56 (k0_pay14 (col3 A)) (k0_pay11 (col2 A) (k0_pay8 (col1 A) (k0_pay5 (col0 A) s)))
/-- Point 1: the running label logit. -/
def lab1 : FVec F S2048x1 .f32 :=
  k0_pay57 (k0_pay13 v (col3 A) lab) (k0_pay12 (col2 A) (k0_pay10 v) lab (k0_pay9 v (col1 A) lab (k0_pay7 (k0_pay6 v (col0 A) lab l))))
/-- Point 2. -/
def sum2 : FVec F S2048x1 .f32 := k0_pay58 (k0_pay25 (col3 A)) (k0_pay22 (col2 A) (k0_pay19 (col1 A) (k0_pay16 (col0 A) s)))
/-- The label logits after the second product. -/
def lab2 : FVec F S2048x1 .f32 :=
  k0_pay59 (k0_pay24 v (col3 A) lab) (k0_pay23 (col2 A) (k0_pay21 v) lab (k0_pay20 v (col1 A) lab (k0_pay18 (k0_pay17 v (col0 A) lab l))))
/-- Point 3, before the exchange: what is stored, -/
def sum3 : FVec F S2048x1 .f32 := k0_pay1 (k0_pay36 (col3 A)) (k0_pay33 (col2 A) (k0_pay30 (col1 A) (k0_pay27 (col0 A) s)))
/-- The label logits after the third product. -/
def lab3 : FVec F S2048x1 .f32 :=
  k0_pay2 (k0_pay35 v (col3 A) lab) (k0_pay34 (col2 A) (k0_pay32 v) lab (k0_pay31 v (col1 A) lab (k0_pay29 (k0_pay28 v (col0 A) lab l))))
/-- and the last block of logits, consumed in registers. -/
def sum4 : FVec F S2048x1 .f32 := k0_pay41 (k0_pay37 s (col0 A)) (k0_pay40 (col1 A)) (col2 A) (col3 A)
/-- The label logits after the last product. -/
def lab4 : FVec F S2048x1 .f32 := k0_pay42 v (k0_pay38 v l (col0 A) lab) (k0_pay39 v (col1 A) lab) (col2 A) lab (col3 A) lab

end Consume

end Cert.Run

end
-- ==== Proof.Steps.lean ====
/-
# The exchange's memory operations, one rule each

A signal to a partner's barrier, the wait on the own barrier, the copy of row 0 into a partner's landing row, and the two waits
that follow it — each stated once, for round `k`, over the schedule of `Proto`. What a device owes is kept with the record of its
waits forgotten.
-/
module

public import proofs.«01_k».proof.Proof.Values

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants are used. -/
abbrev 𝒱₀ : Variants := Variants.none

/-- What device `c` owes, whatever it has waited for. -/
def owesE (c : Dev nD) (O : CellTallies nD τ sig Unit) : sProp 𝕄 := iprop(∃ W, owes (c : Thread nD τ) O W)

/-! ## What a copy does to a landing row -/

/-- A copy of row 0 into landing row `k` leaves there what row 0 held. -/
theorem landed (k : Fin 3) (f g : cc0_scratch4.ty.Contents (Elt F)) (f' : cc0_scratch4.ty.Contents (Elt F))
    (h : f' = match k with
      | 0 => slot1.view.write (Elt F) g (slot0.view.read (Elt F) f) Finset.univ
      | 1 => slot2.view.write (Elt F) g (slot0.view.read (Elt F) f) Finset.univ
      | 2 => slot3.view.write (Elt F) g (slot0.view.read (Elt F) f) Finset.univ) : boxL k f' = box0 f := by
  have inj : ∀ (hc : S1x2048x2.ShapeCasts S2048x2) (u v : Box F), shapeCast S2048x2 u hc = shapeCast S2048x2 v hc → u = v := fun hc u v huv =>
    funext fun i => by simpa [shapeCast] using congrFun huv ((Shape.reshapeEquiv hc).symm i)
  match k with
  | 0 => exact inj (Shape.Squeezes.numel_eq squeezes_S1x2048x2_S2048x2) _ _ ((by rw [h]; exact View.read_write_univ _ _ : slot1.view.read (Elt F) f' = slot0.view.read (Elt F) f))
  | 1 => exact inj (Shape.Squeezes.numel_eq squeezes_S1x2048x2_S2048x2) _ _ ((by rw [h]; exact View.read_write_univ _ _ : slot2.view.read (Elt F) f' = slot0.view.read (Elt F) f))
  | 2 => exact inj (Shape.Squeezes.numel_eq squeezes_S1x2048x2_S2048x2) _ _ ((by rw [h]; exact View.read_write_univ _ _ : slot3.view.read (Elt F) f' = slot0.view.read (Elt F) f))

/-! ## The steps -/

variable (P : Fin 3 → Dev nD → Box F) (K : GSem nD τ sig → ℕ) (c : Dev nD)

/-- SIGNAL the partner of round `k`: its barrier cell gets a unit, and with it the own landing row `k` and that the own receive
    cell `k` is open. -/
theorem signal_step (k : Fin 3) (c' : Dev nD) (hc : c' = pr k c) (O : CellTallies nD τ sig Unit) {α : Type} (kk : PUnit → Prog (TpuEff nD τ sig (Elt F) Λ₀ .tc) α) (Q : α → sProp 𝕄) :
    iprop(cellInv ER (exRd P) (K (barCell (pr k c))) (barCell (pr k c)) ∗ owesE c (O + tallyAt (barCell (pr k c)) () 1) ∗ dutyTok ER (barCell (pr k c)) 0 k
        ∗ (∃ f, ptsL k c f) ∗ reached ER (recvCell k c) 0 ∗ reached ER (barCell (pr k c)) 0)
      ⊢ iprop((owesE c O -∗ wp frame (wpE (defs₀ (F := F)) 𝒱₀ (c : Thread nD τ) none) Set.univ (kk ⟨⟩) Q) -∗ wp frame (wpE (defs₀ (F := F)) 𝒱₀ (c : Thread nD τ) none) Set.univ (.op (.semSignal (Dev.tc c') barS 1) kk) Q) := by
  subst hc
  unfold owesE
  iintro ⟨#HI, ⟨%W, HO⟩, Ht, Hrow, #HrV, #HrB⟩ Hk
  iapply (Rounds.wp_signal 𝒱₀ ER (exRd P) (c : Thread nD τ) none (dst := (pr k c : Thread nD τ)) (sem := barS) (r := 0) (d := k) (κ := K (barCell (pr k c)))
      (by rw [duties_bar]; revert k; decide) (amount_bar P (pr k c) k) () O rfl) $$ [HO Ht Hrow]
  · isplitr; · iexact HI
    isplitl [HO]; · iexact HO
    isplitl [Ht]; · iexact Ht
    isplitl [Hrow]
    · rw [payload_bar]; unfold barPay; rw [pr_pr]
      isplitl [Hrow]; · iexact Hrow
      iexact HrV
    · iexact HrB
  iintro HO
  iapply Hk
  iexists W; iexact HO

/-- WAIT for the three partners' units: their landing rows come with them. -/
theorem barrier_step {α : Type} (kk : PUnit → Prog (TpuEff nD τ sig (Elt F) Λ₀ .tc) α) (Q : α → sProp 𝕄) :
    iprop(cellInv ER (exRd P) (K (barCell c)) (barCell c) ∗ cred (tallyAt (barCell c) () 3) ∗ owesE c (owedR c 0) ∗ levAts L lv ∗ atPos ER (barCell c) 0 ∅ 0)
      ⊢ iprop(((owesE c (owedR c 0) ∗ atPos ER (barCell c) 1 ∅ 0 ∗ barPay 0 c ∗ barPay 1 c ∗ barPay 2 c) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 3) kk) Q) := by
  unfold owesE
  iintro ⟨#HI, Hc, ⟨%W, HO⟩, #Hlev, Hat⟩ Hk
  iapply (Rounds.wp_wait_rest_token 𝒱₀ ER (exRd P) (c : Thread nD τ) none (κ := K (barCell c))
      (wpE_semWait_eq 𝒱₀ (c : Thread nD τ) none Set.univ) (Set.mem_univ _) () (O := owedR c 0) (W := W) (R := 0) (m := 0) (T := ∅)
      ((Nat.zero_add 3).trans (expect_bar P c).symm)) $$ [Hc HO Hat]
  · isplitr; · iexact HI
    isplitl [Hc]; · iexact Hc
    isplitl [HO]; · iexact HO
    isplitr
    · iapply (mayWait_owed c (.reg barS) 0 (by rw [lv_bar]; decide)); iexact Hlev
    iexact Hat
  iintro ⟨HO, Hat, -, Hpay⟩
  ihave Hp := (Entails.of_eq (rest_bar P c)) $$ Hpay
  iapply Hk
  isplitl [HO]; · iexists _; iexact HO
  isplitl [Hat]; · iexact Hat
  iexact Hp

/-- COPY row 0 to a memref of the partner's: the rule, for any destination whose rewriting makes the receive payload. -/
theorem send_core (k : Fin 3) (dst : Memref sig .tc .vmem S2048x2 .f32) (f : cc0_scratch4.ty.Contents (Elt F)) (fd : Buf (Elt F) (dst.view.loc (pr k c : Thread nD τ)))
    (hN : dst.view.amount (.dma (recvS k)) = N)
    (hpay : (dst.view.loc (pr k c : Thread nD τ) ↦[dst.view.set]{fullShare} (dst.view.write (Elt F) fd (slot0.view.read (Elt F) f) Finset.univ) : sProp 𝕄)
      ⊢ recvPay P k (pr k c)) (O O' : CellTallies nD τ sig Unit) (hO : O = O' + tallyAt (recvCell k (pr k c)) () N) {hsc : dst.view.ref.isScScratch = false}
    {h1 : slot0.view.WordExact} {h2 : dst.view.WordExact} {h3 : DmaTarget.Typed .vmem (.dma (recvS k)) (.remote (Dev.tc (pr k c)) dst (.dma (sendS k)) hsc)}
    {α : Type} (kk : PUnit → Prog (TpuEff nD τ sig (Elt F) Λ₀ .tc) α) (Q : α → sProp 𝕄) :
    iprop(cellInv ER (exRd P) (K (sendCell k c)) (sendCell k c) ∗ cellInv ER (exRd P) (K (recvCell k (pr k c))) (recvCell k (pr k c))
        ∗ pts0 c f ∗ (dst.view.loc (pr k c : Thread nD τ) ↦[dst.view.set]{fullShare} fd) ∗ owesE c O
        ∗ dutyTok ER (sendCell k c) 0 0 ∗ reached ER (sendCell k c) 0 ∗ dutyTok ER (recvCell k (pr k c)) 0 0 ∗ reached ER (recvCell k (pr k c)) 0)
      ⊢ iprop(((cred (tallyAt (sendCell k c) () N) ∗ owesE c O') -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma slot0 (.remote (Dev.tc (pr k c)) dst (.dma (sendS k)) hsc) (.dma (recvS k)) h1 h2 h3) kk) Q) := by
  unfold owesE
  iintro ⟨#HI, #HI', Hf, Hg, ⟨%W, HO⟩, HtS, #HrS, HtV, #HrV⟩ Hk
  iapply (Rounds.wp_send_pointsTo 𝒱₀ ER (exRd P) (c : Thread nD τ) none (c' := (pr k c : Thread nD τ)) (src := slot0) (dst := dst)
    (sS := .dma (sendS k)) (sem := .dma (recvS k)) (q := fullShare) (fs := f) (κ₁ := K (sendCell k c)) (κ₂ := K (recvCell k (pr k c)))
    (r₁ := 0) (r₂ := 0) (d₁ := 0) (d₂ := 0) (fd := fd)
    (by rw [duties_send]; exact Finset.mem_singleton_self _) (by rw [duties_recv]; exact Finset.mem_singleton_self _)
    () () N hN (amount_send P c k 0) (amount_recv P (pr k c) k 0) O' hO (W := W)
    (by rw [payload_send]; unfold sendPay pts0; iintro H; iexists _; iexact H)
    (by rw [payload_recv]; exact hpay)) $$ [Hf Hg HO HtS HtV]
  · isplitr; · iexact HI
    isplitr; · iexact HI'
    isplitl [Hf]; · unfold pts0; iexact Hf
    isplitl [Hg]; · iexact Hg
    isplitl [HO]; · iexact HO
    isplitl [HtS]; · iexact HtS
    isplitr; · iexact HrS
    isplitl [HtV]; · iexact HtV
    iexact HrV
  iintro ⟨HcS, HO⟩
  iapply Hk
  isplitl [HcS]; · iexact HcS
  iexists W; iexact HO

/-- COPY row 0 into the partner's landing row `k`. -/
theorem send_step (k : Fin 3) (c' : Dev nD) (hc : c' = pr k c) {sS sV : SemLoc sig} (hS : sS = .dma (sendS k)) (hV : sV = .dma (recvS k))
    {dst : Memref sig .tc .vmem S2048x2 .f32} (hdst : dst = slotL k) (f g : cc0_scratch4.ty.Contents (Elt F)) (hf : box0 f = P k c) {hsc : dst.view.ref.isScScratch = false}
    {h1 : slot0.view.WordExact} {h2 : dst.view.WordExact} {h3 : DmaTarget.Typed .vmem sV (.remote (Dev.tc c') dst sS hsc)}
    {α : Type} (kk : PUnit → Prog (TpuEff nD τ sig (Elt F) Λ₀ .tc) α) (Q : α → sProp 𝕄) :
    iprop(cellInv ER (exRd P) (K (sendCell k c)) (sendCell k c) ∗ cellInv ER (exRd P) (K (recvCell k (pr k c))) (recvCell k (pr k c))
        ∗ pts0 c f ∗ ptsL k (pr k c) g ∗ owesE c (owedR c k.val)
        ∗ dutyTok ER (sendCell k c) 0 0 ∗ reached ER (sendCell k c) 0 ∗ dutyTok ER (recvCell k (pr k c)) 0 0 ∗ reached ER (recvCell k (pr k c)) 0)
      ⊢ iprop(((cred (tallyAt (sendCell k c) () N) ∗ owesE c (owedR c (k.val + 1))) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma slot0 (.remote (Dev.tc c') dst sS hsc) sV h1 h2 h3) kk) Q) := by
  subst hc hS hV hdst
  have hpay : ∀ (k : Fin 3) (f' : cc0_scratch4.ty.Contents (Elt F)), boxL k f' = P k c → (ptsL k (pr k c) f' : sProp 𝕄) ⊢ recvPay P k (pr k c) := fun k f' hf' => by
    unfold recvPay; rw [pr_pr]; iintro H; iexists f'; isplitr; · ipureintro; exact hf'
    iexact H
  match k, hf, h1, h2, h3, hsc with
  | 0, hf, h1, h2, h3, hsc => exact send_core P K c 0 slot1 f g rfl (hpay 0 _ ((landed 0 f g _ rfl).trans hf)) (owedR c 0) (owedR c 1) rfl kk Q
  | 1, hf, h1, h2, h3, hsc => exact send_core P K c 1 slot2 f g rfl (hpay 1 _ ((landed 1 f g _ rfl).trans hf)) (owedR c 1) (owedR c 2) rfl kk Q
  | 2, hf, h1, h2, h3, hsc => exact send_core P K c 2 slot3 f g rfl (hpay 2 _ ((landed 2 f g _ rfl).trans hf)) (owedR c 2) (owedR c 3) rfl kk Q

/-- WAIT for the own copy of round `k`: row 0 comes back. -/
theorem sent_step (k : Fin 3) {sS : DmaSem sig} (hS : sS = sendS k)
    {src dst : Memref sig .tc .vmem S2048x2 .f32} (hN : dst.view.dmaCredit = N) {h1 : src.view.WordExact} {h2 : dst.view.WordExact}
    {α : Type} (kk : PUnit → Prog (TpuEff nD τ sig (Elt F) Λ₀ .tc) α) (Q : α → sProp 𝕄) :
    iprop(cellInv ER (exRd P) (K (sendCell k c)) (sendCell k c) ∗ cred (tallyAt (sendCell k c) () N) ∗ owesE c (owedR c (k.val + 1)) ∗ levAts L lv ∗ atPos ER (sendCell k c) 0 ∅ 0)
      ⊢ iprop(((owesE c (owedR c (k.val + 1)) ∗ atPos ER (sendCell k c) 1 ∅ 0 ∗ ∃ f, pts0 c f) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst h1 h2) kk) Q) := by
  subst hS
  unfold owesE
  iintro ⟨#HI, Hc, ⟨%W, HO⟩, #Hlev, Hat⟩ Hk
  iapply (Rounds.wp_wait_rest_token 𝒱₀ ER (exRd P) (c : Thread nD τ) none (κ := K (sendCell k c)) (k' := N)
      (fun Kt => (wpE_waitDma2_eq 𝒱₀ (c : Thread nD τ) none Set.univ Kt).trans (by rw [hN])) (Set.mem_univ _) () (O := owedR c (k.val + 1)) (W := W) (R := 0) (m := 0) (T := ∅)
      ((Nat.zero_add _).trans (expect_send P c k).symm)) $$ [Hc HO Hat]
  · isplitr; · iexact HI
    isplitl [Hc]; · iexact Hc
    isplitl [HO]; · iexact HO
    isplitr
    · iapply (mayWait_owed c (.dma (sendS k)) (k.val + 1) (by rw [lv_send]; omega)); iexact Hlev
    iexact Hat
  iintro ⟨HO, Hat, -, Hpay⟩
  ihave Hp := (Entails.of_eq ((rest_send P c k).trans (by unfold sendPay; rfl))) $$ Hpay
  iapply Hk
  isplitl [HO]; · iexists _; iexact HO
  isplitl [Hat]; · iexact Hat
  iexact Hp

/-- WAIT for the partner's copy of round `k`: the own landing row comes back, holding what the partner sent. -/
theorem recvd_step (k : Fin 3) {sS : DmaSem sig} (hS : sS = recvS k)
    {src dst : Memref sig .tc .vmem S2048x2 .f32} (hN : dst.view.dmaCredit = N) {h1 : src.view.WordExact} {h2 : dst.view.WordExact}
    {α : Type} (kk : PUnit → Prog (TpuEff nD τ sig (Elt F) Λ₀ .tc) α) (Q : α → sProp 𝕄) :
    iprop(cellInv ER (exRd P) (K (recvCell k c)) (recvCell k c) ∗ cred (tallyAt (recvCell k c) () N) ∗ owesE c (owedR c (k.val + 1)) ∗ levAts L lv ∗ atPos ER (recvCell k c) 0 ∅ 0)
      ⊢ iprop(((owesE c (owedR c (k.val + 1)) ∗ atPos ER (recvCell k c) 1 ∅ 0 ∗ ∃ f, ⌜boxL k f = P k (pr k c)⌝ ∗ ptsL k c f) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst h1 h2) kk) Q) := by
  subst hS
  unfold owesE
  iintro ⟨#HI, Hc, ⟨%W, HO⟩, #Hlev, Hat⟩ Hk
  iapply (Rounds.wp_wait_rest_token 𝒱₀ ER (exRd P) (c : Thread nD τ) none (κ := K (recvCell k c)) (k' := N)
      (fun Kt => (wpE_waitDma2_eq 𝒱₀ (c : Thread nD τ) none Set.univ Kt).trans (by rw [hN])) (Set.mem_univ _) () (O := owedR c (k.val + 1)) (W := W) (R := 0) (m := 0) (T := ∅)
      ((Nat.zero_add _).trans (expect_recv P c k).symm)) $$ [Hc HO Hat]
  · isplitr; · iexact HI
    isplitl [Hc]; · iexact Hc
    isplitl [HO]; · iexact HO
    isplitr
    · iapply (mayWait_owed c (.dma (recvS k)) (k.val + 1) (by rw [lv_recv]; omega)); iexact Hlev
    iexact Hat
  iintro ⟨HO, Hat, -, Hpay⟩
  ihave Hp := (Entails.of_eq ((rest_recv P c k).trans (by unfold recvPay; rfl))) $$ Hpay
  iapply Hk
  isplitl [HO]; · iexists _; iexact HO
  isplitl [Hat]; · iexact Hat
  iexact Hp

/-! ## What a device holds of the protocol -/

/-- The invariants of round `k` device `c` opens. -/
def invK (k : Fin 3) : sProp 𝕄 :=
  iprop(cellInv ER (exRd P) (K (sendCell k c)) (sendCell k c) ∗ cellInv ER (exRd P) (K (recvCell k c)) (recvCell k c)
    ∗ cellInv ER (exRd P) (K (barCell (pr k c))) (barCell (pr k c)) ∗ cellInv ER (exRd P) (K (recvCell k (pr k c))) (recvCell k (pr k c)))
/-- All of them. -/
def invs : sProp 𝕄 := iprop(cellInv ER (exRd P) (K (barCell c)) (barCell c) ∗ invK P K c 0 ∗ invK P K c 1 ∗ invK P K c 2)

instance invK_persistent (k : Fin 3) : BI.Persistent (invK P K c k) := by unfold invK; infer_instance
instance invs_persistent : BI.Persistent (invs P K c) := by unfold invs; infer_instance

/-- What round `k` is done with, from launch to the copy: the two duty tokens, the credit to wait for the partner's copy, the two positions. -/
def keepK (k : Fin 3) : sProp 𝕄 :=
  iprop(dutyTok ER (sendCell k c) 0 0 ∗ reached ER (sendCell k c) 0 ∗ dutyTok ER (recvCell k (pr k c)) 0 0 ∗ cred (tallyAt (recvCell k c) () N)
    ∗ atPos ER (sendCell k c) 0 ∅ 0 ∗ atPos ER (recvCell k c) 0 ∅ 0)
/-- Before the barrier: the own landing row, and what the signal is paid with. -/
def preK (k : Fin 3) : sProp 𝕄 :=
  iprop((∃ g : cc0_scratch4.ty.Contents (Elt F), ptsL k c g) ∗ reached ER (recvCell k c) 0 ∗ reached ER (barCell (pr k c)) 0 ∗ dutyTok ER (barCell (pr k c)) 0 k ∗ keepK c k)
/-- After it: the partner's landing row instead. -/
def midK (k : Fin 3) : sProp 𝕄 := iprop(barPay k c ∗ keepK c k)
/-- After the exchange: the own landing row back, both cells' rounds over. -/
def postK (k : Fin 3) : sProp 𝕄 :=
  iprop((∃ g : cc0_scratch4.ty.Contents (Elt F), ptsL k c g) ∗ atPos ER (sendCell k c) 1 ∅ 0 ∗ atPos ER (recvCell k c) 1 ∅ 0)

end Cert.Run

end
-- ==== Proof.Rows.lean ====
/-
# The rows of the exchange buffer and their two columns

Row 0 is written a column at a time (sums of exponentials, then label logits) and read by the copy as a whole; a landing row is
written by a copy as a whole and read a column at a time. This module says what those accesses touch and what they read.
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Columns of a row -/

/-- The place of entry `i` of column 0 (sums), and of column 1 (label logits), in a row. -/
def eS (i : S1x2048x1.Idx) : S1x2048x2.Idx := (Rect.unit (s := S1x2048x2) ![0, 0, 0] S1x2048x1.size (by decide)).emb i
/-- The index of entry i of the second column. -/
def eL (i : S1x2048x1.Idx) : S1x2048x2.Idx := (Rect.unit (s := S1x2048x2) ![0, 0, 1] S1x2048x1.size (by decide)).emb i

/-- The columns of a row. -/
def colS (b : Box F) : Vec F S1x2048x1 .f32 := fun i => b (eS i)
/-- The second column of a row. -/
def colL (b : Box F) : Vec F S1x2048x1 .f32 := fun i => b (eL i)

/-- The entry of a column an entry of a row is at. -/
def pC (i : S1x2048x2.Idx) : S1x2048x1.Idx := fun a => match a with | 0 => i 0 | 1 => i 1 | 2 => (0 : Fin 1)

/-- The row with columns `u` and `v`. -/
def mk (u v : Vec F S1x2048x1 .f32) : Box F := fun i => if (i 2).val = 0 then u (pC i) else v (pC i)

/-- An index in the first column comes from its place there. -/
theorem eS_pC (i : S1x2048x2.Idx) (h : (i 2).val = 0) : eS (pC i) = i := funext fun a => Fin.ext (by
  match a with
  | 0 => show 0 + 1 * (i 0).val = (i 0).val; omega
  | 1 => show 0 + 1 * (i 1).val = (i 1).val; omega
  | 2 => show 0 + 1 * 0 = (i 2).val; omega)
/-- An index in the second column comes from its place there. -/
theorem eL_pC (i : S1x2048x2.Idx) (h : (i 2).val ≠ 0) : eL (pC i) = i := funext fun a => Fin.ext (by
  have h2 : (i 2).val < 2 := (i 2).isLt
  match a with
  | 0 => show 0 + 1 * (i 0).val = (i 0).val; omega
  | 1 => show 0 + 1 * (i 1).val = (i 1).val; omega
  | 2 => show 1 + 1 * 0 = (i 2).val; omega)

/-- The place of an entry of the first column. -/
theorem pC_eS (i : S1x2048x1.Idx) : pC (eS i) = i := funext fun a => Fin.ext (by
  have h2 : (i 2).val < 1 := (i 2).isLt
  match a with
  | 0 => show 0 + 1 * (i 0).val = (i 0).val; omega
  | 1 => show 0 + 1 * (i 1).val = (i 1).val; omega
  | 2 => show 0 = (i 2).val; omega)
/-- The place of an entry of the second column. -/
theorem pC_eL (i : S1x2048x1.Idx) : pC (eL i) = i := funext fun a => Fin.ext (by
  have h2 : (i 2).val < 1 := (i 2).isLt
  match a with
  | 0 => show 0 + 1 * (i 0).val = (i 0).val; omega
  | 1 => show 0 + 1 * (i 1).val = (i 1).val; omega
  | 2 => show 0 = (i 2).val; omega)

/-- The first column of a row made of two. -/
theorem colS_mk (u v : Vec F S1x2048x1 .f32) : colS (mk u v) = u := funext fun i => by
  have h : ((eS i) 2).val = 0 := by have h2 : (i 2).val < 1 := (i 2).isLt; show 0 + 1 * (i 2).val = 0; omega
  show (if ((eS i) 2).val = 0 then _ else _) = _
  rw [if_pos h, pC_eS]
/-- The second column of a row made of two. -/
theorem colL_mk (u v : Vec F S1x2048x1 .f32) : colL (mk u v) = v := funext fun i => by
  have h : ((eL i) 2).val ≠ 0 := by show 1 + 1 * (i 2).val ≠ 0; omega
  show (if ((eL i) 2).val = 0 then _ else _) = _
  rw [if_neg h, pC_eL]

/-! ## The rectangles the body accesses -/

/-- Column `j` of row `r`. -/
abbrev cr (r j : ℕ) (h : ∀ a, (![r, 0, j] : Fin 3 → ℕ) a + S1x2048x1.size a ≤ S4x2048x2.size a) : Rect S4x2048x2 :=
  Rect.unit (s := S4x2048x2) ![r, 0, j] S1x2048x1.size h

/-- The first column of row r, by indices of the row. -/
theorem cr_eS (r : ℕ) (h) (h') (i : S1x2048x1.Idx) :
    (cr r 0 h).emb i = (Rect.unit (s := S4x2048x2) ![r, 0, 0] S1x2048x2.size h').emb (eS i) := funext fun a => Fin.ext (by
  match a with
  | 0 => show r + 1 * (i 0).val = r + 1 * (0 + 1 * (i 0).val); omega
  | 1 => show 0 + 1 * (i 1).val = 0 + 1 * (0 + 1 * (i 1).val); omega
  | 2 => show 0 + 1 * (i 2).val = 0 + 1 * (0 + 1 * (i 2).val); omega)
/-- The second column of row r, by indices of the row. -/
theorem cr_eL (r : ℕ) (h) (h') (i : S1x2048x1.Idx) :
    (cr r 1 h).emb i = (Rect.unit (s := S4x2048x2) ![r, 0, 0] S1x2048x2.size h').emb (eL i) := funext fun a => Fin.ext (by
  match a with
  | 0 => show r + 1 * (i 0).val = r + 1 * (0 + 1 * (i 0).val); omega
  | 1 => show 0 + 1 * (i 1).val = 0 + 1 * (0 + 1 * (i 1).val); omega
  | 2 => show 1 + 1 * (i 2).val = 0 + 1 * (1 + 1 * (i 2).val); omega)

/-- The elements of the exchange buffer. -/
abbrev CIdx : Type := (cc0_scratch4 : Ref sig .tc).ty.shape.Idx

/-- A rectangle each of whose places is one of a row's touches no element outside the row. -/
theorem sub_row {R R' : Rect S4x2048x2} (h : ∀ i, ∃ j, R.emb i = R'.emb j) : ((cM.access R).set : Finset CIdx) ⊆ (cM.access R').set := by
  intro x hx
  obtain ⟨i, -, rfl⟩ := Finset.mem_map.mp hx
  obtain ⟨j, hj⟩ := h i
  exact Finset.mem_map.mpr ⟨j, Finset.mem_univ _, hj.symm⟩

/-- The first column of row 0 lies in row 0. -/
theorem sub00 (h) : ((cM.access (cr 0 0 h)).set : Finset CIdx) ⊆ set0 := by
  unfold set0; rw [show slot0.view.set = (cM.access row0).set from View.set_reshape _ _]; exact sub_row (R := cr 0 0 h) (R' := row0) fun i => ⟨eS i, cr_eS 0 h _ i⟩
/-- The second column of row 0 lies in row 0. -/
theorem sub01 (h) : ((cM.access (cr 0 1 h)).set : Finset CIdx) ⊆ set0 := by
  unfold set0; rw [show slot0.view.set = (cM.access row0).set from View.set_reshape _ _]; exact sub_row (R := cr 0 1 h) (R' := row0) fun i => ⟨eL i, cr_eL 0 h _ i⟩

/-- The columns of the landing rows lie in them, -/
theorem subS (k : Fin 3) (r : ℕ) (hr : r = k.val + 1) (h : ∀ a, (![r, 0, 0] : Fin 3 → ℕ) a + S1x2048x1.size a ≤ S4x2048x2.size a) :
    ((cM.access (cr r 0 h)).set : Finset CIdx) ⊆ setL k := by
  subst hr
  match k with
  | 0 => dsimp only [setL]; rw [show slot1.view.set = (cM.access row1).set from View.set_reshape _ _]; exact sub_row (R := cr 1 0 h) (R' := row1) fun i => ⟨eS i, cr_eS 1 h _ i⟩
  | 1 => dsimp only [setL]; rw [show slot2.view.set = (cM.access row2).set from View.set_reshape _ _]; exact sub_row (R := cr 2 0 h) (R' := row2) fun i => ⟨eS i, cr_eS 2 h _ i⟩
  | 2 => dsimp only [setL]; rw [show slot3.view.set = (cM.access row3).set from View.set_reshape _ _]; exact sub_row (R := cr 3 0 h) (R' := row3) fun i => ⟨eS i, cr_eS 3 h _ i⟩
/-- The second column of a landing row lies in that row. -/
theorem subL (k : Fin 3) (r : ℕ) (hr : r = k.val + 1) (h : ∀ a, (![r, 0, 1] : Fin 3 → ℕ) a + S1x2048x1.size a ≤ S4x2048x2.size a) :
    ((cM.access (cr r 1 h)).set : Finset CIdx) ⊆ setL k := by
  subst hr
  match k with
  | 0 => dsimp only [setL]; rw [show slot1.view.set = (cM.access row1).set from View.set_reshape _ _]; exact sub_row (R := cr 1 1 h) (R' := row1) fun i => ⟨eL i, cr_eL 1 h _ i⟩
  | 1 => dsimp only [setL]; rw [show slot2.view.set = (cM.access row2).set from View.set_reshape _ _]; exact sub_row (R := cr 2 1 h) (R' := row2) fun i => ⟨eL i, cr_eL 2 h _ i⟩
  | 2 => dsimp only [setL]; rw [show slot3.view.set = (cM.access row3).set from View.set_reshape _ _]; exact sub_row (R := cr 3 1 h) (R' := row3) fun i => ⟨eL i, cr_eL 3 h _ i⟩

/-- and a load of one reads that column of what the row holds. -/
theorem readS (k : Fin 3) (r : ℕ) (hr : r = k.val + 1) (h : ∀ a, (![r, 0, 0] : Fin 3 → ℕ) a + S1x2048x1.size a ≤ S4x2048x2.size a) (f : cc0_scratch4.ty.Contents (Elt F)) :
    (cM.access (cr r 0 h)).read (Elt F) f = colS (boxL k f) := by
  subst hr
  match k with
  | 0 => exact funext fun i => congrArg f (cr_eS 1 h inb_S4x2048x2_S1x2048x2_1_0_0 i)
  | 1 => exact funext fun i => congrArg f (cr_eS 2 h inb_S4x2048x2_S1x2048x2_2_0_0 i)
  | 2 => exact funext fun i => congrArg f (cr_eS 3 h inb_S4x2048x2_S1x2048x2_3_0_0 i)
/-- Reading the second column of a landing row. -/
theorem readL (k : Fin 3) (r : ℕ) (hr : r = k.val + 1) (h : ∀ a, (![r, 0, 1] : Fin 3 → ℕ) a + S1x2048x1.size a ≤ S4x2048x2.size a) (f : cc0_scratch4.ty.Contents (Elt F)) :
    (cM.access (cr r 1 h)).read (Elt F) f = colL (boxL k f) := by
  subst hr
  match k with
  | 0 => exact funext fun i => congrArg f (cr_eL 1 h inb_S4x2048x2_S1x2048x2_1_0_0 i)
  | 1 => exact funext fun i => congrArg f (cr_eL 2 h inb_S4x2048x2_S1x2048x2_2_0_0 i)
  | 2 => exact funext fun i => congrArg f (cr_eL 3 h inb_S4x2048x2_S1x2048x2_3_0_0 i)

/-- A place of column 0 is no place of column 1. -/
theorem cr_disj (h0) (h1) (i j : S1x2048x1.Idx) : (cr 0 1 h1).emb j ≠ (cr 0 0 h0).emb i := fun e => by
  have h2 : 1 + 1 * (j 2).val = 0 + 1 * (i 2).val := congrArg Fin.val (congrFun e 2)
  have h3 : (i 2).val < 1 := (i 2).isLt
  omega

/-- A store, read within its rectangle. -/
theorem write_in (R : Rect S4x2048x2) (f : cc0_scratch4.ty.Contents (Elt F)) (w : R.shape.Idx → F .f32) (i : R.shape.Idx) :
    (cM.access R).write (Elt F) f w Finset.univ (R.emb i) = w i :=
  View.write_emb_of_mem (v := cM.access R) f w (Finset.mem_univ i)
/-- A store, read outside of its rectangle. -/
theorem write_out (R : Rect S4x2048x2) (f : cc0_scratch4.ty.Contents (Elt F)) (w : R.shape.Idx → F .f32) (x : CIdx) (hx : ∀ j, R.emb j ≠ x) :
    (cM.access R).write (Elt F) f w Finset.univ x = f x :=
  View.write_of_not_mem (v := cM.access R) f w Finset.univ (fun hm => by
    obtain ⟨j, -, hj⟩ := Finset.mem_map.mp hm
    exact hx j hj)

/-- Row 0 after its two columns are stored. -/
theorem box0_stored (h0) (h1) (f : cc0_scratch4.ty.Contents (Elt F)) (u v : Vec F S1x2048x1 .f32) (f' f'' : cc0_scratch4.ty.Contents (Elt F))
    (hf' : f' = (cM.access (cr 0 0 h0)).write (Elt F) f u Finset.univ) (hf'' : f'' = (cM.access (cr 0 1 h1)).write (Elt F) f' v Finset.univ) :
    box0 f'' = mk u v := by
  funext i
  show f'' (row0.emb i) = if (i 2).val = 0 then u (pC i) else v (pC i)
  by_cases hi : (i 2).val = 0
  · have e : row0.emb i = (cr 0 0 h0).emb (pC i) := ((cr_eS 0 h0 inb_S4x2048x2_S1x2048x2_0_0_0 (pC i)).trans (by rw [eS_pC i hi])).symm
    rw [if_pos hi, e, hf'', write_out (cr 0 1 h1) f' v _ (fun j => cr_disj h0 h1 _ j), hf']
    exact write_in (cr 0 0 h0) f u (pC i)
  · have e : row0.emb i = (cr 0 1 h1).emb (pC i) := ((cr_eL 0 h1 inb_S4x2048x2_S1x2048x2_0_0_0 (pC i)).trans (by rw [eL_pC i hi])).symm
    rw [if_neg hi, e, hf'']
    exact write_in (cr 0 1 h1) f' v (pC i)

/-! ## The loads and the stores, one rule each -/

variable (c : Dev nD)

/-- LOAD within row 0. -/
theorem load_row0 {R : Rect S4x2048x2} (hR : ((cM.access R).set : Finset CIdx) ⊆ set0) {hl : cM.view.LoadsAt R.toLoadRect} (f : cc0_scratch4.ty.Contents (Elt F))
    {α : Type} (kk : (R.shape.Idx → Elt F .f32) → Prog (TpuEff nD τ sig (Elt F) Λ₀ .tc) α) (Q : α → sProp 𝕄) :
    pts0 c f ⊢ iprop((pts0 c f -∗ wp frame (wpE (defs₀ (F := F)) 𝒱₀ (c : Thread nD τ) none) Set.univ (kk ((cM.access R).read (Elt F) f)) Q) -∗ wp frame (wpE (defs₀ (F := F)) 𝒱₀ (c : Thread nD τ) none) Set.univ (.op (.load cM R.toLoadRect hl) kk) Q) := by
  unfold pts0; exact wp_load_rect (m := cM) (r := R) (S := set0) (q := fullShare) (f := f) 𝒱₀ (c : Thread nD τ) none Set.univ hR

/-- LOAD within a landing row. -/
theorem load_rowL (k : Fin 3) {R : Rect S4x2048x2} (hR : ((cM.access R).set : Finset CIdx) ⊆ setL k) {hl : cM.view.LoadsAt R.toLoadRect} (f : cc0_scratch4.ty.Contents (Elt F))
    {α : Type} (kk : (R.shape.Idx → Elt F .f32) → Prog (TpuEff nD τ sig (Elt F) Λ₀ .tc) α) (Q : α → sProp 𝕄) :
    ptsL k c f ⊢ iprop((ptsL k c f -∗ wp frame (wpE (defs₀ (F := F)) 𝒱₀ (c : Thread nD τ) none) Set.univ (kk ((cM.access R).read (Elt F) f)) Q) -∗ wp frame (wpE (defs₀ (F := F)) 𝒱₀ (c : Thread nD τ) none) Set.univ (.op (.load cM R.toLoadRect hl) kk) Q) := by
  unfold ptsL; exact wp_load_rect (m := cM) (r := R) (S := setL k) (q := fullShare) (f := f) 𝒱₀ (c : Thread nD τ) none Set.univ hR

/-- STORE within row 0. -/
theorem store_row0 {R : Rect S4x2048x2} (hR : ((cM.access R).set : Finset CIdx) ⊆ set0) (w : R.shape.Idx → Elt F .f32) {hx : (cM.access R).Stores Finset.univ}
    {hm : (Finset.univ : Finset R.shape.Idx) = Finset.univ ∨ ∀ a, R.stride a = 1} (f : cc0_scratch4.ty.Contents (Elt F))
    {α : Type} (kk : PUnit → Prog (TpuEff nD τ sig (Elt F) Λ₀ .tc) α) (Q : α → sProp 𝕄) :
    pts0 c f ⊢ iprop((pts0 c ((cM.access R).write (Elt F) f w Finset.univ) -∗ wp frame (wpE (defs₀ (F := F)) 𝒱₀ (c : Thread nD τ) none) Set.univ (kk ⟨⟩) Q) -∗ wp frame (wpE (defs₀ (F := F)) 𝒱₀ (c : Thread nD τ) none) Set.univ (.op (.store cM R w Finset.univ hx hm) kk) Q) := by
  have hS : (cM.access R).setOn Finset.univ ⊆ (set0 : Finset CIdx) := hR
  exact wp_store (m := cM) (r := R) (w := w) (Mk := Finset.univ) (hx := hx) (hm := hm) (k := kk) (Q := Q) (S := set0) (f := f) 𝒱₀ (c : Thread nD τ) none Set.univ hS

/-- LOAD of column 0 of a landing row that holds `b`, -/
theorem load_S (k : Fin 3) (r : ℕ) (hr : r = k.val + 1) (h : ∀ a, (![r, 0, 0] : Fin 3 → ℕ) a + S1x2048x1.size a ≤ S4x2048x2.size a)
    (f : cc0_scratch4.ty.Contents (Elt F)) (b : Box F) (hb : boxL k f = b) {hl : cM.view.LoadsAt (cr r 0 h).toLoadRect}
    {α : Type} (kk : ((cr r 0 h).shape.Idx → Elt F .f32) → Prog (TpuEff nD τ sig (Elt F) Λ₀ .tc) α) (Q : α → sProp 𝕄) :
    ptsL k c f ⊢ iprop((ptsL k c f -∗ wp frame (wpE (defs₀ (F := F)) 𝒱₀ (c : Thread nD τ) none) Set.univ (kk (colS b)) Q) -∗ wp frame (wpE (defs₀ (F := F)) 𝒱₀ (c : Thread nD τ) none) Set.univ (.op (.load cM (cr r 0 h).toLoadRect hl) kk) Q) := by
  rw [← hb, ← readS k r hr h f]; exact load_rowL c k (subS k r hr h) f kk Q
/-- and of column 1. -/
theorem load_L (k : Fin 3) (r : ℕ) (hr : r = k.val + 1) (h : ∀ a, (![r, 0, 1] : Fin 3 → ℕ) a + S1x2048x1.size a ≤ S4x2048x2.size a)
    (f : cc0_scratch4.ty.Contents (Elt F)) (b : Box F) (hb : boxL k f = b) {hl : cM.view.LoadsAt (cr r 1 h).toLoadRect}
    {α : Type} (kk : ((cr r 1 h).shape.Idx → Elt F .f32) → Prog (TpuEff nD τ sig (Elt F) Λ₀ .tc) α) (Q : α → sProp 𝕄) :
    ptsL k c f ⊢ iprop((ptsL k c f -∗ wp frame (wpE (defs₀ (F := F)) 𝒱₀ (c : Thread nD τ) none) Set.univ (kk (colL b)) Q) -∗ wp frame (wpE (defs₀ (F := F)) 𝒱₀ (c : Thread nD τ) none) Set.univ (.op (.load cM (cr r 1 h).toLoadRect hl) kk) Q) := by
  rw [← hb, ← readL k r hr h f]; exact load_rowL c k (subL k r hr h) f kk Q

/-- Row 0 with both columns stored, by what it holds. -/
theorem row0_stored (h0) (h1) (f : cc0_scratch4.ty.Contents (Elt F)) (u v : Vec F S1x2048x1 .f32) :
    (pts0 c ((cM.access (cr 0 1 h1)).write (Elt F) ((cM.access (cr 0 0 h0)).write (Elt F) f u Finset.univ) v Finset.univ) : sProp 𝕄)
      ⊢ iprop(∃ q, ⌜box0 q = mk u v⌝ ∗ pts0 c q) := by
  iintro H
  iexists _
  isplitr
  · ipureintro; exact box0_stored h0 h1 f u v _ _ rfl rfl
  iexact H

/-! ## What the exchange makes of a device's pair and of what its three partners send -/

section Exchange

variable (S L : FVec F S2048x1 .f32) (b b' b'' : Box F)

/-- What is sent in round 0, in round 1 (`b` received in round 0), in round 2 (`b'` received in round 1), -/
def sent0 : Box F := mk (k0_pay43 S) (k0_pay44 L)
/-- The pair of columns that the second round sends. -/
def sent1 : Box F := mk (k0_pay47 S (colS b)) (k0_pay48 L (colL b))
/-- The pair of columns that the third round sends. -/
def sent2 : Box F := mk (k0_pay51 (k0_pay49 (k0_pay45 S (colS b)) (colS b'))) (k0_pay52 (k0_pay46 L (colL b)) (colL b'))
/-- and what is stored in the end (`b''` received in round 2). -/
def outOf : FVec F S2048x1 .f32 :=
  k0_pay3 (k0_pay49 (k0_pay45 S (colS b)) (colS b')) (k0_pay50 (k0_pay46 L (colL b)) (colL b')) (colS b'') (colL b'')

end Exchange

end Cert.Run

end
-- ==== Proof.Chain.lean ====
/-
# What every buffer holds, point by point and device by device

The inputs of device `c` at grid point `t` are the blocks its three input windows read. From them, in the order the kernel
computes: the logits of each block of columns, the running sums of exponentials and of picked logits, what the device sends in
each round (its own sums and what it has received so far), and its result.
-/
module

public import proofs.«01_k».proof.Proof.Rows

@[expose] public section

noncomputable section

namespace Cert.Run

open Cert.KernelIdeal Cert.KernelIdeal.Gen

open Idealize.ShloMosaic
open Idealize.ShloMosaic.TcCoe
open Idealize.SL Idealize.SL.RA Idealize.SL.BI

variable {F : FTy → Type} [FloatOps F]

variable (m : (ℓ : Loc nD τ sig) → Buf (Elt F) ℓ)

/-- The block of `x`, of the weight and of the labels that device `c` holds at point `t`. -/
def inX (c : Dev nD) (t : Fin cfg0.N) : FVec F S2048x4096 .bf16 := ((cfg0.win 0).blk t).view.read (Elt F) (V1 m c main_v2)
/-- The columns of W that device c holds at grid step t. -/
def inW (c : Dev nD) (t : Fin cfg0.N) : FVec F S4096x512 .bf16 := ((cfg0.win 1).blk t).view.read (Elt F) (V1 m c main_v18)
/-- The labels that device c holds at grid step t. -/
def inL (c : Dev nD) (t : Fin cfg0.N) : Vec F S2048x1 .i32 := ((cfg0.win 2).blk t).view.read (Elt F) (V1 m c main_v1)

/-- The logits of the four blocks of columns. -/
def lg0 (c : Dev nD) : FVec F S2048x512 .f32 := k0_pay55 (inX m c t0_0) (inW m c t0_0)
/-- The product of the second grid step. -/
def lg1 (c : Dev nD) : FVec F S2048x512 .f32 := k0_pay4 (inX m c t0_1) (inW m c t0_1)
/-- The product of the third grid step. -/
def lg2 (c : Dev nD) : FVec F S2048x512 .f32 := k0_pay15 (inX m c t0_2) (inW m c t0_2)
/-- The product of the last grid step. -/
def lg3 (c : Dev nD) : FVec F S2048x512 .f32 := k0_pay26 (inX m c t0_3) (inW m c t0_3)

/-- The running sums after points 1 and 2, and at the end of the device's own columns. -/
def sm1 (c : Dev nD) : FVec F S2048x1 .f32 := sum1 (lg0 m c) k0_pay53
/-- The sums of exponentials after the third grid step. -/
def sm2 (c : Dev nD) : FVec F S2048x1 .f32 := sum2 (lg1 m c) (sm1 m c)
/-- The device's own sums of exponentials, before the exchange. -/
def smE (c : Dev nD) : FVec F S2048x1 .f32 := sum4 (lg3 m c) (sum3 (lg2 m c) (sm2 m c))
/-- The label logits after the second grid step. -/
def pk1 (c : Dev nD) : FVec F S2048x1 .f32 := lab1 (baseWord c) (lg0 m c) (inL m c t0_1) k0_pay54
/-- The label logits after the third grid step. -/
def pk2 (c : Dev nD) : FVec F S2048x1 .f32 := lab2 (baseWord c) (lg1 m c) (inL m c t0_2) (pk1 m c)
/-- The device's own label logits, before the exchange. -/
def pkE (c : Dev nD) : FVec F S2048x1 .f32 :=
  lab4 (baseWord c) (lg3 m c) (inL m c t0_3) (lab3 (baseWord c) (lg2 m c) (inL m c t0_3) (pk2 m c))

/-- What device `c` sends in rounds 0, 1 and 2. -/
def snd0 (c : Dev nD) : Box F := sent0 (smE m c) (pkE m c)
/-- What a device sends in the second round. -/
def snd1 (c : Dev nD) : Box F := sent1 (smE m c) (pkE m c) (snd0 m (pr 0 c))
/-- What a device sends in the third round. -/
def snd2 (c : Dev nD) : Box F := sent2 (smE m c) (pkE m c) (snd0 m (pr 0 c)) (snd1 m (pr 1 c))
/-- What a device sends in round k. -/
def PS (k : Fin 3) (c : Dev nD) : Box F := match k with | 0 => snd0 m c | 1 => snd1 m c | 2 => snd2 m c

/-- What device `c` ends with. -/
def outV (c : Dev nD) : FVec F S2048x1 .f32 := outOf (smE m c) (pkE m c) (PS m 0 (pr 0 c)) (PS m 1 (pr 1 c)) (PS m 2 (pr 2 c))

end Cert.Run

end
-- ==== Proof.BodyA.lean ====
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Memref `M`'s buffer on device `c` held whole at `f`. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- **Point 1**: the logits of block 1 into the second buffer, and the running sums taken over the logits of block 0. -/
theorem run1 (c : Dev nD) (M1 : Memref sig .tc .vmem S2048x4096 .bf16) (h1 : M1.IsWhole) (M2 : Memref sig .tc .vmem S4096x512 .bf16) (h2 : M2.IsWhole)
    (M3 : Memref sig .tc .vmem S2048x1 .i32) (h3 : M3.IsWhole) (M4 : Memref sig .tc .vmem S2048x1 .f32) (h4 : M4.IsWhole)
    (f1 : Buf (Elt F) (M1.view.loc (c : Thread nD τ))) (f2 : Buf (Elt F) (M2.view.loc (c : Thread nD τ))) (f3 : Buf (Elt F) (M3.view.loc (c : Thread nD τ)))
    (A : FVec F S2048x512 .f32) (B : FVec F S2048x512 .f32) (s l : FVec F S2048x1 .f32) (Q : PUnit → sProp 𝕄) :
    iprop(ptM c M1 f1 ∗ ptM c M2 f2 ∗ ptM c M3 f3 ∗ ptM c (Memref.whole cc0_scratch0) A ∗ ptM c (Memref.whole cc0_scratch1) B
        ∗ ptM c (Memref.whole cc0_scratch2) s ∗ ptM c (Memref.whole cc0_scratch3) l
        ∗ (iprop(ptM c M1 f1 ∗ ptM c M2 f2 ∗ ptM c M3 f3 ∗ ptM c (Memref.whole cc0_scratch0) A
            ∗ ptM c (Memref.whole cc0_scratch1) (k0_pay4 (M1.view.read (Elt F) f1) (M2.view.read (Elt F) f2))
            ∗ ptM c (Memref.whole cc0_scratch2) (sum1 A s) ∗ ptM c (Memref.whole cc0_scratch3) (lab1 (baseWord c) A (M3.view.read (Elt F) f3) l)) -∗ Q ⟨⟩))
      ⊢ wp frame (wpE (defs₀ (F := F)) 𝒱₀ (c : Thread nD τ) none) Set.univ
          (cc0_body (F := F) (grid0.coords t0_1) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) cc0_scratch5 cc0_scratch6) Q := by
  iintro ⟨H1, H2, H3, HA, HB, Hs, Hl, Hk⟩
  simp only [cc0_body_eq_skeleton]; unfold cc0_body_skel
  sl_exec!
  sl_step
  iapply Hk
  isplitl [H1]; · iexact H1
  isplitl [H2]; · iexact H2
  isplitl [H3]; · iexact H3
  isplitl [HA]; · iexact HA
  isplitl [HB]
  · delta run1.sl.HB_1
    rw [writes_b, readAt_full M1 zero2, readAt_full M2 zero2]
    iexact HB
  isplitl [Hs]
  · delta run1.sl.Hs_4 run1.sl.Hs_3 run1.sl.Hs_2 run1.sl.Hs_1 run1.sl.v141 run1.sl.v114 run1.sl.v87 run1.sl.r_4
    rw [writes_s, cov_s, cov_s, cov_s, read_s]
    iexact Hs
  · delta run1.sl.Hl_4 run1.sl.Hl_3 run1.sl.Hl_2 run1.sl.Hl_1 run1.sl.v146 run1.sl.v119 run1.sl.v92 run1.sl.r run1.sl.r_1 run1.sl.r_2 run1.sl.r_3
    rw [writes_l, cov_l, cov_l, cov_l, readAt_full M3 zero2, read_l]
    iexact Hl

end Cert.Run

end
-- ==== Proof.Slots.lean ====
/-
# The four rows make up the exchange buffer

An element of the exchange buffer lies in the row its leading coordinate names. So the buffer held whole is its four rows held
separately, and four rows held at any contents are the buffer held at some contents.
-/
module

public import proofs.«01_k».proof.Proof.Rows
public import proofs.«01_k».proof.Proof.BodyA

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The place of a row that element `x` sits at. -/
def inRow (x : S4x2048x2.Idx) : S1x2048x2.Idx := fun a => match a with | 0 => (0 : Fin 1) | 1 => x 1 | 2 => x 2

/-- The indices of row r. -/
theorem mem_row (r : ℕ) (h : ∀ a, (![r, 0, 0] : Fin 3 → ℕ) a + S1x2048x2.size a ≤ S4x2048x2.size a) (x : CIdx) :
    x ∈ ((cM.access (Rect.unit (s := S4x2048x2) ![r, 0, 0] S1x2048x2.size h)).set : Finset CIdx) ↔ ((show S4x2048x2.Idx from x) 0).val = r := by
  constructor
  · intro hx
    obtain ⟨i, -, rfl⟩ := Finset.mem_map.mp hx
    have : (i 0).val < 1 := (i 0).isLt
    show r + 1 * (i 0).val = r
    omega
  · intro hx
    refine Finset.mem_map.mpr ⟨inRow x, Finset.mem_univ _, ?_⟩
    refine funext fun a => Fin.ext ?_
    match a with
    | 0 => show r + 1 * 0 = ((show S4x2048x2.Idx from x) 0).val; omega
    | 1 => show 0 + 1 * ((show S4x2048x2.Idx from x) 1).val = ((show S4x2048x2.Idx from x) 1).val; omega
    | 2 => show 0 + 1 * ((show S4x2048x2.Idx from x) 2).val = ((show S4x2048x2.Idx from x) 2).val; omega

/-- The indices of row 0. -/
theorem mem_set0 (x : CIdx) : x ∈ set0 ↔ ((show S4x2048x2.Idx from x) 0).val = 0 := by
  unfold set0; rw [show slot0.view.set = (cM.access row0).set from View.set_reshape _ _]; exact mem_row 0 _ x
/-- The indices of the row in which round k lands. -/
theorem mem_setL (k : Fin 3) (x : CIdx) : x ∈ setL k ↔ ((show S4x2048x2.Idx from x) 0).val = k.val + 1 := by
  match k with
  | 0 => dsimp only [setL]; rw [show slot1.view.set = (cM.access row1).set from View.set_reshape _ _]; exact mem_row 1 _ x
  | 1 => dsimp only [setL]; rw [show slot2.view.set = (cM.access row2).set from View.set_reshape _ _]; exact mem_row 2 _ x
  | 2 => dsimp only [setL]; rw [show slot3.view.set = (cM.access row3).set from View.set_reshape _ _]; exact mem_row 3 _ x

/-- Row 0 is no landing row. -/
theorem disj_0 (k : Fin 3) : Disjoint (set0 : Finset CIdx) (setL k) :=
  Finset.disjoint_left.mpr fun x h h' => by rw [mem_set0] at h; rw [mem_setL] at h'; omega
/-- Different landing rows are disjoint. -/
theorem disj_L {k k' : Fin 3} (hk : k ≠ k') : Disjoint (setL k : Finset CIdx) (setL k') :=
  Finset.disjoint_left.mpr fun x h h' => by rw [mem_setL] at h h'; exact hk (Fin.ext (by omega))
/-- The four rows are the whole buffer. -/
theorem rows_univ : (((set0 ∪ setL 0) ∪ setL 1) ∪ setL 2 : Finset CIdx) = Finset.univ := Finset.eq_univ_iff_forall.mpr fun x => by
  have : ((show S4x2048x2.Idx from x) 0).val < 4 := ((show S4x2048x2.Idx from x) 0).isLt
  rw [Finset.mem_union, Finset.mem_union, Finset.mem_union, mem_set0, mem_setL, mem_setL, mem_setL]
  show ((_ ∨ _ = 0 + 1) ∨ _ = 1 + 1) ∨ _ = 2 + 1
  omega

/-- Rows 0 and 1 are disjoint from row 2. -/
theorem disj_01 : Disjoint (set0 ∪ setL 0 : Finset CIdx) (setL 1) := Finset.disjoint_union_left.mpr ⟨disj_0 1, disj_L (by decide)⟩
/-- Rows 0 to 2 are disjoint from row 3. -/
theorem disj_012 : Disjoint ((set0 ∪ setL 0) ∪ setL 1 : Finset CIdx) (setL 2) :=
  Finset.disjoint_union_left.mpr ⟨Finset.disjoint_union_left.mpr ⟨disj_0 2, disj_L (by decide)⟩, disj_L (by decide)⟩

/-- The exchange buffer, taken apart into its rows. -/
theorem rows_split (c : Dev nD) (f : Buf (Elt F) ((c : Thread nD τ).loc cc0_scratch4)) :
    ((c : Thread nD τ).loc cc0_scratch4 ↦{fullShare} f : sProp 𝕄) ⊢ iprop(pts0 c f ∗ ptsL 0 c f ∗ ptsL 1 c f ∗ ptsL 2 c f) := by
  rw [show (Finset.univ : Finset CIdx) = ((set0 ∪ setL 0) ∪ setL 1) ∪ setL 2 from rows_univ.symm]
  unfold pts0 ptsL
  iintro H
  ihave H := (pointsTo_union (ℓ := (c : Thread nD τ).loc cc0_scratch4) disj_012).1 $$ H
  icases H with ⟨H, H3⟩
  ihave H := (pointsTo_union (ℓ := (c : Thread nD τ).loc cc0_scratch4) disj_01).1 $$ H
  icases H with ⟨H, H2⟩
  ihave H := (pointsTo_union (ℓ := (c : Thread nD τ).loc cc0_scratch4) (disj_0 0)).1 $$ H
  icases H with ⟨H, H1⟩
  isplitl [H]; · iexact H
  isplitl [H1]; · iexact H1
  isplitl [H2]; · iexact H2
  iexact H3

/-- The rows, put together again. -/
theorem rows_join (c : Dev nD) (f0 f1 f2 f3 : Buf (Elt F) ((c : Thread nD τ).loc cc0_scratch4)) :
    (iprop(pts0 c f0 ∗ ptsL 0 c f1 ∗ ptsL 1 c f2 ∗ ptsL 2 c f3) : sProp 𝕄) ⊢ iprop(∃ f, (c : Thread nD τ).loc cc0_scratch4 ↦{fullShare} f) := by
  rw [show (Finset.univ : Finset CIdx) = ((set0 ∪ setL 0) ∪ setL 1) ∪ setL 2 from rows_univ.symm]
  unfold pts0 ptsL
  iintro ⟨H0, H1, H2, H3⟩
  iexists _
  iapply (pointsTo_join (ℓ := (c : Thread nD τ).loc cc0_scratch4) disj_012)
  isplitr [H3]; swap; · iexact H3
  iapply (pointsTo_join (ℓ := (c : Thread nD τ).loc cc0_scratch4) disj_01)
  isplitr [H2]; swap; · iexact H2
  iapply (pointsTo_join (ℓ := (c : Thread nD τ).loc cc0_scratch4) (disj_0 0))
  isplitl [H0]; · iexact H0
  iexact H1

/-- Owning a whole memref at `X`: its buffer held at contents that read as `X`. -/
theorem owns_isWhole (c : Dev nD) {sp : Space} {S : Shape} {e : EltTy} (M : Memref sig .tc sp S e) (h : M.IsWhole) (X : S.Idx → Elt F e) :
    (owns (c : Thread nD τ) M fullShare X : sProp 𝕄) = iprop(∃ f : Buf (Elt F) (M.view.loc (c : Thread nD τ)), ⌜M.view.read (Elt F) f = X⌝ ∗ ptM c M f) := by
  obtain ⟨b, rfl, rfl, rfl, hb⟩ := h
  obtain rfl := eq_of_heq hb
  unfold owns ptM
  simp only [Memref.view_whole, View.set_whole]

end Cert.Run

end
-- ==== Proof.BodyB.lean ====
module

public import proofs.«01_k».proof.Proof.BodyA

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- **Point 2**: the logits of block 2 into the first buffer, and the running sums taken over the logits of block 1. -/
theorem run2 (c : Dev nD) (M1 : Memref sig .tc .vmem S2048x4096 .bf16) (h1 : M1.IsWhole) (M2 : Memref sig .tc .vmem S4096x512 .bf16) (h2 : M2.IsWhole)
    (M3 : Memref sig .tc .vmem S2048x1 .i32) (h3 : M3.IsWhole) (M4 : Memref sig .tc .vmem S2048x1 .f32) (h4 : M4.IsWhole)
    (f1 : Buf (Elt F) (M1.view.loc (c : Thread nD τ))) (f2 : Buf (Elt F) (M2.view.loc (c : Thread nD τ))) (f3 : Buf (Elt F) (M3.view.loc (c : Thread nD τ)))
    (A : FVec F S2048x512 .f32) (B : FVec F S2048x512 .f32) (s l : FVec F S2048x1 .f32) (Q : PUnit → sProp 𝕄) :
    iprop(ptM c M1 f1 ∗ ptM c M2 f2 ∗ ptM c M3 f3 ∗ ptM c (Memref.whole cc0_scratch0) A ∗ ptM c (Memref.whole cc0_scratch1) B
        ∗ ptM c (Memref.whole cc0_scratch2) s ∗ ptM c (Memref.whole cc0_scratch3) l
        ∗ (iprop(ptM c M1 f1 ∗ ptM c M2 f2 ∗ ptM c M3 f3 ∗ ptM c (Memref.whole cc0_scratch0) (k0_pay15 (M1.view.read (Elt F) f1) (M2.view.read (Elt F) f2))
            ∗ ptM c (Memref.whole cc0_scratch1) B
            ∗ ptM c (Memref.whole cc0_scratch2) (sum2 B s) ∗ ptM c (Memref.whole cc0_scratch3) (lab2 (baseWord c) B (M3.view.read (Elt F) f3) l)) -∗ Q ⟨⟩))
      ⊢ wp frame (wpE (defs₀ (F := F)) 𝒱₀ (c : Thread nD τ) none) Set.univ
          (cc0_body (F := F) (grid0.coords t0_2) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) cc0_scratch5 cc0_scratch6) Q := by
  iintro ⟨H1, H2, H3, HA, HB, Hs, Hl, Hk⟩
  simp only [cc0_body_eq_skeleton]; unfold cc0_body_skel
  sl_exec!
  sl_step
  iapply Hk
  isplitl [H1]; · iexact H1
  isplitl [H2]; · iexact H2
  isplitl [H3]; · iexact H3
  isplitl [HA]
  · delta run2.sl.HA_1
    rw [writes_a, readAt_full M1 zero2, readAt_full M2 zero2]
    iexact HA
  isplitl [HB]; · iexact HB
  isplitl [Hs]
  · delta run2.sl.Hs_4 run2.sl.Hs_3 run2.sl.Hs_2 run2.sl.Hs_1 run2.sl.v141 run2.sl.v114 run2.sl.v87 run2.sl.r_4
    rw [writes_s, cov_s, cov_s, cov_s, read_s]
    iexact Hs
  · delta run2.sl.Hl_4 run2.sl.Hl_3 run2.sl.Hl_2 run2.sl.Hl_1 run2.sl.v146 run2.sl.v119 run2.sl.v92 run2.sl.r run2.sl.r_1 run2.sl.r_2 run2.sl.r_3
    rw [writes_l, cov_l, cov_l, cov_l, readAt_full M3 zero2, read_l]
    iexact Hl

end Cert.Run

end
-- ==== Proof.BodyC.lean ====
module

public import proofs.«01_k».proof.Proof.BodyB

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- **Point 0**: the running sums cleared, the barrier passed, the logits of block 0 into the first buffer. -/
theorem run0 (P : Fin 3 → Dev nD → Box F) (K : GSem nD τ sig → ℕ) (c : Dev nD) (M1 : Memref sig .tc .vmem S2048x4096 .bf16) (h1 : M1.IsWhole) (M2 : Memref sig .tc .vmem S4096x512 .bf16) (h2 : M2.IsWhole)
    (M3 : Memref sig .tc .vmem S2048x1 .i32) (h3 : M3.IsWhole) (M4 : Memref sig .tc .vmem S2048x1 .f32) (h4 : M4.IsWhole)
    (f1 : Buf (Elt F) (M1.view.loc (c : Thread nD τ))) (f2 : Buf (Elt F) (M2.view.loc (c : Thread nD τ)))
    (A B : FVec F S2048x512 .f32) (s l : FVec F S2048x1 .f32) (Q : PUnit → sProp 𝕄) :
    iprop(ptM c M1 f1 ∗ ptM c M2 f2 ∗ ptM c (Memref.whole cc0_scratch0) A
        ∗ ptM c (Memref.whole cc0_scratch2) s ∗ ptM c (Memref.whole cc0_scratch3) l
        ∗ invs P K c ∗ levAts L lv ∗ atPos ER (barCell c) 0 ∅ 0 ∗ cred (tallyAt (barCell c) () 3) ∗ owesE c (O₀ c) ∗ preK c 0 ∗ preK c 1 ∗ preK c 2
        ∗ (iprop(ptM c M1 f1 ∗ ptM c M2 f2 ∗ ptM c (Memref.whole cc0_scratch0) (k0_pay55 (M1.view.read (Elt F) f1) (M2.view.read (Elt F) f2))
            ∗ ptM c (Memref.whole cc0_scratch2) (k0_pay53 (F := F)) ∗ ptM c (Memref.whole cc0_scratch3) (k0_pay54 (F := F))
            ∗ atPos ER (barCell c) 1 ∅ 0 ∗ owesE c (owedR c 0) ∗ midK c 0 ∗ midK c 1 ∗ midK c 2) -∗ Q ⟨⟩))
      ⊢ wp frame (wpE (defs₀ (F := F)) 𝒱₀ (c : Thread nD τ) none) Set.univ
          (cc0_body (F := F) (grid0.coords t0_0) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) cc0_scratch5 cc0_scratch6) Q := by
  unfold invs invK preK O₀
  iintro ⟨H1, H2, HA, Hs, Hl, ⟨#HIb, ⟨-, -, #HIb0, -⟩, ⟨-, -, #HIb1, -⟩, ⟨-, -, #HIb2, -⟩⟩, #Hlev, Hat, Hcr, HO, ⟨Hr0, #HrV0, #HrB0, HtB0, Hk0⟩, ⟨Hr1, #HrV1, #HrB1, HtB1, Hk1⟩, ⟨Hr2, #HrV2, #HrB2, HtB2, Hk2⟩, Hk⟩
  simp only [cc0_body_eq_skeleton]; unfold cc0_body_skel
  sl_exec!
  iapply (signal_step P K c 0 _ (dev1_eq c _) _ _ _) $$ [HO Hr0 HtB0]
  · isplitr; · iexact HIb0
    isplitl [HO]; · iexact HO
    isplitl [HtB0]; · iexact HtB0
    isplitl [Hr0]; · iexact Hr0
    isplitr; · iexact HrV0
    iexact HrB0
  iintro HO
  sl_exec!
  iapply (signal_step P K c 1 _ (dev2_eq c _) _ _ _) $$ [HO Hr1 HtB1]
  · isplitr; · iexact HIb1
    isplitl [HO]; · iexact HO
    isplitl [HtB1]; · iexact HtB1
    isplitl [Hr1]; · iexact Hr1
    isplitr; · iexact HrV1
    iexact HrB1
  iintro HO
  sl_exec!
  iapply (signal_step P K c 2 _ (dev3_eq c _) _ _ _) $$ [HO Hr2 HtB2]
  · isplitr; · iexact HIb2
    isplitl [HO]; · iexact HO
    isplitl [HtB2]; · iexact HtB2
    isplitl [Hr2]; · iexact Hr2
    isplitr; · iexact HrV2
    iexact HrB2
  iintro HO
  sl_exec!
  iapply (barrier_step P K c _ _) $$ [Hcr HO Hat]
  · isplitr; · iexact HIb
    isplitl [Hcr]; · iexact Hcr
    isplitl [HO]; · iexact HO
    isplitr; · iexact Hlev
    iexact Hat
  iintro ⟨HO, Hat, HP0, HP1, HP2⟩
  sl_exec!
  sl_step
  iapply Hk
  unfold midK
  isplitl [H1]; · iexact H1
  isplitl [H2]; · iexact H2
  isplitl [HA]
  · delta run0.sl.HA_1
    rw [writes_a, readAt_full M1 zero2, readAt_full M2 zero2]
    iexact HA
  isplitl [Hs]
  · delta run0.sl.Hs_1
    rw [writes_s]
    iexact Hs
  isplitl [Hl]
  · delta run0.sl.Hl_1
    rw [writes_l]
    iexact Hl
  isplitl [Hat]; · iexact Hat
  isplitl [HO]; · iexact HO
  isplitl [HP0 Hk0]
  · isplitl [HP0]; · iexact HP0
    iexact Hk0
  isplitl [HP1 Hk1]
  · isplitl [HP1]; · iexact HP1
    iexact Hk1
  isplitl [HP2]; · iexact HP2
  iexact Hk2

end Cert.Run

end
-- ==== Proof.BodyD.lean ====
module

public import proofs.«01_k».proof.Proof.BodyA
public import proofs.«01_k».proof.Proof.Rows

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A block of columns loaded from the second logits buffer just after it was stored whole. -/
theorem cov_b (inb) (w : Vec F S2048x512 .f32) (L) (R : Rect S2048x512) :
    (Memref.whole cc0_scratch1 : Memref sig .tc .vmem S2048x512 .f32).view.readCov (Val := Elt F) (⟨Rect.unit ![0, 0] S2048x512.size inb, w⟩ :: L) R.toLoadRect
      = fun i => w (R.emb i) := by
  unfold View.readCov
  rw [writes_b]
  rfl

/-- A memref whose latest store covers it reads what was stored. -/
theorem read_writes_full {sp : Space} {S : Shape} {e : EltTy} (M : Memref sig .tc sp S e) {off : Fin S.rank → ℕ} (h : off = fun _ => 0)
    (inb : ∀ a, off a + S.size a ≤ S.size a) (f : M.view.ty.Contents (Elt F)) (w : (Rect.unit off S.size inb).shape.Idx → Elt F e) (L : List (View.Piece (Elt F) S e)) :
    M.view.read (Elt F) (M.view.writes (Elt F) f (⟨Rect.unit off S.size inb, w⟩ :: L)) = w := by
  rw [← readAt_full M h inb, View.writes_cons]
  exact View.read_write_univ _ _

/-- **Point 3**: the last block of logits, its part of the running sums, and the exchange. -/
theorem run3 (P : Fin 3 → Dev nD → Box F) (K : GSem nD τ sig → ℕ) (c : Dev nD) (M1 : Memref sig .tc .vmem S2048x4096 .bf16) (h1 : M1.IsWhole) (M2 : Memref sig .tc .vmem S4096x512 .bf16) (h2 : M2.IsWhole)
    (M3 : Memref sig .tc .vmem S2048x1 .i32) (h3 : M3.IsWhole) (M4 : Memref sig .tc .vmem S2048x1 .f32) (h4 : M4.IsWhole)
    (f1 : Buf (Elt F) (M1.view.loc (c : Thread nD τ))) (f2 : Buf (Elt F) (M2.view.loc (c : Thread nD τ))) (f3 : Buf (Elt F) (M3.view.loc (c : Thread nD τ))) (f4 : Buf (Elt F) (M4.view.loc (c : Thread nD τ)))
    (A B : FVec F S2048x512 .f32) (s l : FVec F S2048x1 .f32) (r0 : cc0_scratch4.ty.Contents (Elt F))
    (S L' : FVec F S2048x1 .f32) (hS : S = sum4 (k0_pay26 (M1.view.read (Elt F) f1) (M2.view.read (Elt F) f2)) (sum3 A s))
    (hL : L' = lab4 (baseWord c) (k0_pay26 (M1.view.read (Elt F) f1) (M2.view.read (Elt F) f2)) (M3.view.read (Elt F) f3) (lab3 (baseWord c) A (M3.view.read (Elt F) f3) l))
    (hP0 : P 0 c = sent0 S L') (hP1 : P 1 c = sent1 S L' (P 0 (pr 0 c))) (hP2 : P 2 c = sent2 S L' (P 0 (pr 0 c)) (P 1 (pr 1 c)))
    (Q : PUnit → sProp 𝕄) :
    iprop(ptM c M1 f1 ∗ ptM c M2 f2 ∗ ptM c M3 f3 ∗ ptM c M4 f4 ∗ ptM c (Memref.whole cc0_scratch0) A ∗ ptM c (Memref.whole cc0_scratch1) B
        ∗ ptM c (Memref.whole cc0_scratch2) s ∗ ptM c (Memref.whole cc0_scratch3) l
        ∗ invs P K c ∗ levAts L lv ∗ owesE c (owedR c 0) ∗ pts0 c r0 ∗ midK c 0 ∗ midK c 1 ∗ midK c 2
        ∗ (iprop(ptM c M1 f1 ∗ ptM c M2 f2 ∗ ptM c M3 f3
            ∗ (∃ f : Buf (Elt F) (M4.view.loc (c : Thread nD τ)), ⌜M4.view.read (Elt F) f = outOf S L' (P 0 (pr 0 c)) (P 1 (pr 1 c)) (P 2 (pr 2 c))⌝ ∗ ptM c M4 f)
            ∗ ptM c (Memref.whole cc0_scratch0) A ∗ (∃ f : FVec F S2048x512 .f32, ptM c (Memref.whole cc0_scratch1) f)
            ∗ (∃ f : FVec F S2048x1 .f32, ptM c (Memref.whole cc0_scratch2) f) ∗ (∃ f : FVec F S2048x1 .f32, ptM c (Memref.whole cc0_scratch3) f)
            ∗ owesE c (owedR c 3) ∗ (∃ f : cc0_scratch4.ty.Contents (Elt F), pts0 c f) ∗ postK c 0 ∗ postK c 1 ∗ postK c 2) -∗ Q ⟨⟩))
      ⊢ wp frame (wpE (defs₀ (F := F)) 𝒱₀ (c : Thread nD τ) none) Set.univ
          (cc0_body (F := F) (grid0.coords t0_3) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) cc0_scratch5 cc0_scratch6) Q := by
  unfold invs invK midK barPay keepK
  iintro ⟨H1, H2, H3, H4, HA, HB, Hs, Hl, ⟨-, ⟨#HS0, #HV0, -, #HP0⟩, ⟨#HS1, #HV1, -, #HP1⟩, ⟨#HS2, #HV2, -, #HP2⟩⟩, #Hlev, HO, Hr,
    ⟨⟨⟨%g0, Hg0⟩, #HrP0⟩, Ht0, #HrS0, Hu0, Hc0, HaS0, HaV0⟩, ⟨⟨⟨%g1, Hg1⟩, #HrP1⟩, Ht1, #HrS1, Hu1, Hc1, HaS1, HaV1⟩, ⟨⟨⟨%g2, Hg2⟩, #HrP2⟩, Ht2, #HrS2, Hu2, Hc2, HaS2, HaV2⟩, Hk⟩
  simp only [cc0_body_eq_skeleton]; unfold cc0_body_skel
  sl_exec!
  iapply (load_row0 c (sub00 _) r0 _ _) $$ Hr
  iintro Hr
  try dsimp only [Prog.bind]
  try sl_exec!
  iapply (store_row0 c (sub00 _) _ r0 _ _) $$ Hr
  iintro Hr
  try dsimp only [Prog.bind]
  try sl_exec!
  iapply (load_row0 c (sub01 _) _ _ _) $$ Hr
  iintro Hr
  try dsimp only [Prog.bind]
  try sl_exec!
  iapply (store_row0 c (sub01 _) _ _ _ _) $$ Hr
  iintro Hr
  try dsimp only [Prog.bind]
  try sl_exec!
  subst hS hL
  have EB (R : Rect S2048x512) : (Memref.whole cc0_scratch1 : Memref sig .tc .vmem S2048x512 .f32).view.readCov (Val := Elt F) (run3.sl.HB_1 c M1 M2 f1 f2) R.toLoadRect
      = fun i => k0_pay26 (M1.view.read (Elt F) f1) (M2.view.read (Elt F) f2) (R.emb i) := by
    delta run3.sl.HB_1
    rw [cov_b, readAt_full M1 zero2, readAt_full M2 zero2]
  have Ev : run3.sl.v13 c = baseWord c := rfl
  have Es : run3.sl.v35 A s = sum3 A s := by
    delta run3.sl.v35 run3.sl.Hs_4 run3.sl.Hs_3 run3.sl.Hs_2 run3.sl.Hs_1 run3.sl.v141 run3.sl.v114 run3.sl.v87 run3.sl.r_4
    rw [cov_s, cov_s, cov_s, cov_s, read_s]; rfl
  have El : run3.sl.v36 c M3 f3 A l = lab3 (baseWord c) A (M3.view.read (Elt F) f3) l := by
    delta run3.sl.v36 run3.sl.Hl_4 run3.sl.Hl_3 run3.sl.Hl_2 run3.sl.Hl_1 run3.sl.v146 run3.sl.v119 run3.sl.v92 run3.sl.r run3.sl.r_1 run3.sl.r_2 run3.sl.r_3
    rw [cov_l, cov_l, cov_l, cov_l, readAt_full M3 zero2, read_l]; rfl
  have E9 : run3.sl.r_9 c M1 M2 f1 f2 A s = sum4 (k0_pay26 (M1.view.read (Elt F) f1) (M2.view.read (Elt F) f2)) (sum3 A s) := by
    delta run3.sl.r_9 run3.sl.r_5 run3.sl.r_8 run3.sl.v75 run3.sl.v94 run3.sl.v37 run3.sl.v56
    rw [Es, EB, EB, EB, EB]; rfl
  have E10 : run3.sl.r_10 c M1 M2 M3 f1 f2 f3 A l = lab4 (baseWord c) (k0_pay26 (M1.view.read (Elt F) f1) (M2.view.read (Elt F) f2)) (M3.view.read (Elt F) f3) (lab3 (baseWord c) A (M3.view.read (Elt F) f3) l) := by
    delta run3.sl.r_10 run3.sl.r_6 run3.sl.r_7 run3.sl.v75 run3.sl.v94 run3.sl.v37 run3.sl.v56
    rw [El, Ev, EB, EB, EB, EB, readAt_full M3 zero2]; rfl
  ihave Hr := (row0_stored c _ _ _ _ _) $$ Hr
  icases Hr with ⟨%q0, %hq0, Hr⟩
  have e0 : box0 q0 = P 0 c := hq0.trans (by rw [hP0, ← E9, ← E10]; rfl)
  iapply (send_step P K c 0 _ (dev4_eq c _) rfl rfl rfl q0 g0 e0 _ _) $$ [Hr Hg0 HO Ht0 Hu0]
  · isplitr; · iexact HS0
    isplitr; · iexact HP0
    isplitl [Hr]; · iexact Hr
    isplitl [Hg0]; · iexact Hg0
    isplitl [HO]; · iexact HO
    isplitl [Ht0]; · iexact Ht0
    isplitr; · iexact HrS0
    isplitl [Hu0]; · iexact Hu0
    iexact HrP0
  iintro ⟨Hx, HO⟩
  try dsimp only [Prog.bind]
  try sl_exec!
  iapply (sent_step P K c 0 (src := slotL 0) (dst := slot0) rfl rfl _ _) $$ [Hx HO HaS0]
  · isplitr; · iexact HS0
    isplitl [Hx]; · iexact Hx
    isplitl [HO]; · iexact HO
    isplitr; · iexact Hlev
    iexact HaS0
  iintro ⟨HO, HaS0, %w0, Hr⟩
  try dsimp only [Prog.bind]
  try sl_exec!
  iapply (recvd_step P K c 0 (src := slot0) (dst := slotL 0) rfl rfl _ _) $$ [Hc0 HO HaV0]
  · isplitr; · iexact HV0
    isplitl [Hc0]; · iexact Hc0
    isplitl [HO]; · iexact HO
    isplitr; · iexact Hlev
    iexact HaV0
  iintro ⟨HO, HaV0, %z0, %hz0, HL0⟩
  try dsimp only [Prog.bind]
  try sl_exec!
  iapply (load_S c 0 1 rfl _ z0 _ hz0 _ _) $$ HL0
  iintro HL0
  try dsimp only [Prog.bind]
  try sl_exec!
  iapply (load_L c 0 1 rfl _ z0 _ hz0 _ _) $$ HL0
  iintro HL0
  try dsimp only [Prog.bind]
  try sl_exec!
  iapply (load_row0 c (sub00 _) w0 _ _) $$ Hr
  iintro Hr
  try dsimp only [Prog.bind]
  try sl_exec!
  iapply (store_row0 c (sub00 _) _ w0 _ _) $$ Hr
  iintro Hr
  try dsimp only [Prog.bind]
  try sl_exec!
  iapply (load_row0 c (sub01 _) _ _ _) $$ Hr
  iintro Hr
  try dsimp only [Prog.bind]
  try sl_exec!
  iapply (store_row0 c (sub01 _) _ _ _ _) $$ Hr
  iintro Hr
  try dsimp only [Prog.bind]
  try sl_exec!
  ihave Hr := (row0_stored c _ _ _ _ _) $$ Hr
  icases Hr with ⟨%q1, %hq1, Hr⟩
  have e1 : box0 q1 = P 1 c := hq1.trans (by rw [hP1, ← E9, ← E10]; rfl)
  iapply (send_step P K c 1 _ (dev5_eq c _) rfl rfl rfl q1 g1 e1 _ _) $$ [Hr Hg1 HO Ht1 Hu1]
  · isplitr; · iexact HS1
    isplitr; · iexact HP1
    isplitl [Hr]; · iexact Hr
    isplitl [Hg1]; · iexact Hg1
    isplitl [HO]; · iexact HO
    isplitl [Ht1]; · iexact Ht1
    isplitr; · iexact HrS1
    isplitl [Hu1]; · iexact Hu1
    iexact HrP1
  iintro ⟨Hx, HO⟩
  try dsimp only [Prog.bind]
  try sl_exec!
  iapply (sent_step P K c 1 (src := slotL 1) (dst := slot0) rfl rfl _ _) $$ [Hx HO HaS1]
  · isplitr; · iexact HS1
    isplitl [Hx]; · iexact Hx
    isplitl [HO]; · iexact HO
    isplitr; · iexact Hlev
    iexact HaS1
  iintro ⟨HO, HaS1, %w1, Hr⟩
  try dsimp only [Prog.bind]
  try sl_exec!
  iapply (recvd_step P K c 1 (src := slot0) (dst := slotL 1) rfl rfl _ _) $$ [Hc1 HO HaV1]
  · isplitr; · iexact HV1
    isplitl [Hc1]; · iexact Hc1
    isplitl [HO]; · iexact HO
    isplitr; · iexact Hlev
    iexact HaV1
  iintro ⟨HO, HaV1, %z1, %hz1, HL1⟩
  try dsimp only [Prog.bind]
  try sl_exec!
  iapply (load_S c 1 2 rfl _ z1 _ hz1 _ _) $$ HL1
  iintro HL1
  try dsimp only [Prog.bind]
  try sl_exec!
  iapply (load_L c 1 2 rfl _ z1 _ hz1 _ _) $$ HL1
  iintro HL1
  try dsimp only [Prog.bind]
  try sl_exec!
  iapply (load_row0 c (sub00 _) w1 _ _) $$ Hr
  iintro Hr
  try dsimp only [Prog.bind]
  try sl_exec!
  iapply (store_row0 c (sub00 _) _ w1 _ _) $$ Hr
  iintro Hr
  try dsimp only [Prog.bind]
  try sl_exec!
  iapply (load_row0 c (sub01 _) _ _ _) $$ Hr
  iintro Hr
  try dsimp only [Prog.bind]
  try sl_exec!
  iapply (store_row0 c (sub01 _) _ _ _ _) $$ Hr
  iintro Hr
  try dsimp only [Prog.bind]
  try sl_exec!
  ihave Hr := (row0_stored c _ _ _ _ _) $$ Hr
  icases Hr with ⟨%q2, %hq2, Hr⟩
  have e2 : box0 q2 = P 2 c := hq2.trans (by rw [hP2, ← E9, ← E10]; rfl)
  iapply (send_step P K c 2 _ (dev6_eq c _) rfl rfl rfl q2 g2 e2 _ _) $$ [Hr Hg2 HO Ht2 Hu2]
  · isplitr; · iexact HS2
    isplitr; · iexact HP2
    isplitl [Hr]; · iexact Hr
    isplitl [Hg2]; · iexact Hg2
    isplitl [HO]; · iexact HO
    isplitl [Ht2]; · iexact Ht2
    isplitr; · iexact HrS2
    isplitl [Hu2]; · iexact Hu2
    iexact HrP2
  iintro ⟨Hx, HO⟩
  try dsimp only [Prog.bind]
  try sl_exec!
  iapply (sent_step P K c 2 (src := slotL 2) (dst := slot0) rfl rfl _ _) $$ [Hx HO HaS2]
  · isplitr; · iexact HS2
    isplitl [Hx]; · iexact Hx
    isplitl [HO]; · iexact HO
    isplitr; · iexact Hlev
    iexact HaS2
  iintro ⟨HO, HaS2, %w2, Hr⟩
  try dsimp only [Prog.bind]
  try sl_exec!
  iapply (recvd_step P K c 2 (src := slot0) (dst := slotL 2) rfl rfl _ _) $$ [Hc2 HO HaV2]
  · isplitr; · iexact HV2
    isplitl [Hc2]; · iexact Hc2
    isplitl [HO]; · iexact HO
    isplitr; · iexact Hlev
    iexact HaV2
  iintro ⟨HO, HaV2, %z2, %hz2, HL2⟩
  try dsimp only [Prog.bind]
  try sl_exec!
  iapply (load_S c 2 3 rfl _ z2 _ hz2 _ _) $$ HL2
  iintro HL2
  try dsimp only [Prog.bind]
  try sl_exec!
  iapply (load_L c 2 3 rfl _ z2 _ hz2 _ _) $$ HL2
  iintro HL2
  try dsimp only [Prog.bind]
  try sl_exec!
  sl_step
  iapply Hk
  isplitl [H1]; · iexact H1
  isplitl [H2]; · iexact H2
  isplitl [H3]; · iexact H3
  isplitl [H4]
  · iexists _
    isplitr; swap; iexact H4
    ipureintro
    delta run3.sl.H4_1
    rw [read_writes_full M4 zero2]
    rw [← E9, ← E10]; rfl
  isplitl [HA]; · iexact HA
  isplitl [HB]; · iexists _; iexact HB
  isplitl [Hs]; · iexists _; iexact Hs
  isplitl [Hl]; · iexists _; iexact Hl
  isplitl [HO]; · iexact HO
  isplitl [Hr]; · iexists _; iexact Hr
  unfold postK
  isplitl [HL0 HaS0 HaV0]
  · isplitl [HL0]; · iexists _; iexact HL0
    isplitl [HaS0]; · iexact HaS0
    iexact HaV0
  isplitl [HL1 HaS1 HaV1]
  · isplitl [HL1]; · iexists _; iexact HL1
    isplitl [HaS1]; · iexact HaS1
    iexact HaV1
  isplitl [HL2]; · iexists _; iexact HL2
  isplitl [HaS2]; · iexact HaS2
  iexact HaV2

end Cert.Run

end
-- ==== Proof.Obl.lean ====
/-
# The pipeline's proof data, and the body at each of the four grid points

Before point 0 a device holds what the launch dealt it; between the points it holds its partners' landing rows, its scratch
buffers at the values of `Chain`, and still owes the three copies; after point 3 every semaphore of the exchange is closed and
back at zero, nothing is owed, and the result block holds `outV`.
-/
module

public import proofs.«01_k».proof.Proof.Chain
public import proofs.«01_k».proof.Proof.Slots
public import proofs.«01_k».proof.Proof.BodyC
public import proofs.«01_k».proof.Proof.BodyD
public import Idealize.ShloMosaic.Lib.Pipeline.FrameBody

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Pipeline (BodyObligation)

variable {F : FTy → Type} [FloatOps F]

local notation "𝕄" => MT nD τ sig Unit (Elt F) ℕ UU ℕ

variable (m : (ℓ : Loc nD τ sig) → Buf (Elt F) ℓ)

/-! ## The scratch buffers -/

/-- The first product buffer holds f. -/
def scr0 (c : Dev nD) (f : FVec F S2048x512 .f32) : sProp 𝕄 := ptM c (Memref.whole cc0_scratch0) f
/-- The second product buffer holds f. -/
def scr1 (c : Dev nD) (f : FVec F S2048x512 .f32) : sProp 𝕄 := ptM c (Memref.whole cc0_scratch1) f
/-- The buffer of the sums holds f. -/
def scr2 (c : Dev nD) (f : FVec F S2048x1 .f32) : sProp 𝕄 := ptM c (Memref.whole cc0_scratch2) f
/-- The buffer of the label logits holds f. -/
def scr3 (c : Dev nD) (f : FVec F S2048x1 .f32) : sProp 𝕄 := ptM c (Memref.whole cc0_scratch3) f
/-- The exchange buffer, held whole. -/
def scr4 (c : Dev nD) : sProp 𝕄 := iprop(∃ f : Buf (Elt F) ((c : Thread nD τ).loc cc0_scratch4), (c : Thread nD τ).loc cc0_scratch4 ↦{fullShare} f)
/-- The random number generator's register, at whatever it holds. -/
def reg (c : Dev nD) : sProp 𝕄 := iprop(∃ r, prngReg c r)

/-! ## The invariant between the points -/

/-- What the device keeps of the exchange until its first point. -/
def fresh (K : GSem nD τ sig → ℕ) (c : Dev nD) : sProp 𝕄 :=
  iprop(invs (PS m) K c ∗ levAts L lv ∗ atPos ER (barCell c) 0 ∅ 0 ∗ cred (tallyAt (barCell c) () 3) ∗ preK c 0 ∗ preK c 1 ∗ preK c 2)
/-- What it keeps from then to its last. -/
def ready (K : GSem nD τ sig → ℕ) (c : Dev nD) : sProp 𝕄 :=
  iprop(invs (PS m) K c ∗ levAts L lv ∗ atPos ER (barCell c) 1 ∅ 0 ∗ midK c 0 ∗ midK c 1 ∗ midK c 2)
/-- The counters of round `k`, at zero. -/
def zeroK (c : Dev nD) (k : Fin 3) : sProp 𝕄 := iprop(semVal (sendCell k c) 0 ∗ semVal (recvCell k c) 0)

/-- The invariant before each of the four points, and after the last. -/
def Phi0 (c : Dev nD) : sProp 𝕄 :=
  iprop((∃ K, fresh m K c) ∗ (∃ f, pts0 c f) ∗ reg c ∗ (∃ f, scr0 c f) ∗ (∃ f, scr1 c f) ∗ (∃ f, scr2 c f) ∗ (∃ f, scr3 c f))
/-- The state between the first and the second grid step. -/
def Phi1 (c : Dev nD) : sProp 𝕄 :=
  iprop((∃ K, ready m K c) ∗ (∃ f, pts0 c f) ∗ reg c ∗ scr0 c (lg0 m c) ∗ (∃ f, scr1 c f) ∗ scr2 c k0_pay53 ∗ scr3 c k0_pay54)
/-- The state between the second and the third grid step. -/
def Phi2 (c : Dev nD) : sProp 𝕄 :=
  iprop((∃ K, ready m K c) ∗ (∃ f, pts0 c f) ∗ reg c ∗ (∃ f, scr0 c f) ∗ scr1 c (lg1 m c) ∗ scr2 c (sm1 m c) ∗ scr3 c (pk1 m c))
/-- The state before the last grid step. -/
def Phi3 (c : Dev nD) : sProp 𝕄 :=
  iprop((∃ K, ready m K c) ∗ (∃ f, pts0 c f) ∗ reg c ∗ scr0 c (lg2 m c) ∗ (∃ f, scr1 c f) ∗ scr2 c (sm2 m c) ∗ scr3 c (pk2 m c))
/-- The state at the end. -/
def Phi4 (c : Dev nD) : sProp 𝕄 :=
  iprop(semVal (barCell c) 0 ∗ (zeroK c 0 ∗ zeroK c 1 ∗ zeroK c 2) ∗ scr4 c ∗ reg c ∗ (∃ f, scr0 c f) ∗ (∃ f, scr1 c f) ∗ (∃ f, scr2 c f) ∗ (∃ f, scr3 c f))
/-- The state before grid step number n. -/
def Phi (c : Dev nD) : ℕ → sProp 𝕄
  | 0 => Phi0 m c
  | 1 => Phi1 m c
  | 2 => Phi2 m c
  | 3 => Phi3 m c
  | _ => Phi4 c

/-- What is owed before point `n`. -/
def owedAt (c : Dev nD) : ℕ → CellTallies nD τ sig Unit
  | 0 => O₀ c
  | 1 => owedR c 0
  | 2 => owedR c 0
  | 3 => owedR c 0
  | _ => 0

/-- The proof data: the arrays as the host left them, the input blocks read and kept, the result block at `outV`. -/
def dat0 (c : Dev nD) : Dat τ (Elt F) Unit ℕ UU ℕ cfg0 c where
  A w := V1 m c (Pipeline.arrRef spec0 w)
  after w t := match w with
    | 0 => inX m c t
    | 1 => inW m c t
    | 2 => inL m c t
    | 3 => outV m c
    | ⟨_ + 4, h⟩ => absurd h (Nat.not_lt.2 (Nat.le_add_left _ _))
  Φ t := Phi m c t.val
  q _ := fullShare
  owed t := owedAt c t.val

/-- What is in the staged buffer of x at step t. -/
theorem before_X (c : Dev nD) (t : Fin cfg0.N) (d) : (dat0 m c).before 0 t d = inX m c t :=
  ((dat0 m c).before_in_eq_fetched 0 rfl (fun _ => rfl) (fun _ _ _ => rfl) (fun _ => rfl) t d).trans rfl
/-- What is in the staged buffer of W at step t. -/
theorem before_W (c : Dev nD) (t : Fin cfg0.N) (d) : (dat0 m c).before 1 t d = inW m c t :=
  ((dat0 m c).before_in_eq_fetched 1 rfl (fun _ => rfl) (fun _ _ _ => rfl) (fun _ => rfl) t d).trans rfl
/-- What is in the staged buffer of the labels at step t. -/
theorem before_L (c : Dev nD) (t : Fin cfg0.N) (d) : (dat0 m c).before 2 t d = inL m c t :=
  ((dat0 m c).before_in_eq_fetched 2 rfl (fun _ => rfl) (fun _ _ _ => rfl) (fun _ => rfl) t d).trans rfl

/-- What the pipeline owes at a step, from the plain statement. -/
theorem owes_intro (c : Dev nD) (t : Fin (cfg0.N + 1)) (O : CellTallies nD τ sig Unit) (h0 : (dat0 m c).owed t = O) :
    (owesE c O : sProp 𝕄) ⊢ ((dat0 m c).owesAt () t : sProp 𝕄) := by
  unfold owesE Dat.owesAt Pipeline.owesWithin Dat.bound; rw [h0, show (dat0 m c).recorded t = Set.univ from rfl]
  iintro ⟨%W, HO⟩; iexists W; isplitr; · ipureintro; exact fun _ _ => Or.inl trivial
  iexact HO
/-- What the pipeline owes at a step, as the plain statement. -/
theorem owes_elim (c : Dev nD) (t : Fin (cfg0.N + 1)) (O : CellTallies nD τ sig Unit) (h0 : (dat0 m c).owed t = O) :
    ((dat0 m c).owesAt () t : sProp 𝕄) ⊢ owesE c O := by
  unfold owesE Dat.owesAt Pipeline.owesWithin; rw [h0]
  iintro ⟨%W, -, HO⟩; iexists W; iexact HO

/-! ## Closing the cells -/

variable (P : Fin 3 → Dev nD → Box F)

/-- A cell whose only round is over is at zero and is given back. -/
theorem close_cell (κ : ℕ) (g : GSem nD τ sig) : iprop(cellInv ER (exRd P) κ g ∗ atPos ER g 1 ∅ 0) ⊢ (|={Set.univ}=> semVal g 0 : sProp 𝕄) :=
  Rounds.cell_close ER (exRd P) (Set.mem_univ κ) id (duties_later P g)

/-- Round `k` over, its two cells are closed and the landing row is back. -/
theorem close_round (K : GSem nD τ sig → ℕ) (c : Dev nD) (k : Fin 3) :
    iprop(invK P K c k ∗ postK c k) ⊢ (|={Set.univ}=> iprop((∃ g : cc0_scratch4.ty.Contents (Elt F), ptsL k c g) ∗ zeroK c k) : sProp 𝕄) := by
  unfold invK postK zeroK
  iintro ⟨⟨#HS, #HV, -, -⟩, Hg, HaS, HaV⟩
  imod (close_cell P (K (sendCell k c)) (sendCell k c)) $$ [HaS] with HzS
  · isplitr; · iexact HS
    iexact HaS
  imod (close_cell P (K (recvCell k c)) (recvCell k c)) $$ [HaV] with HzV
  · isplitr; · iexact HV
    iexact HaV
  imodintro
  isplitl [Hg]; · iexact Hg
  isplitl [HzS]; · iexact HzS
  iexact HzV

/-- All rounds over, every counter is back at zero and the exchange buffer is whole again. -/
theorem close_all (K : GSem nD τ sig → ℕ) (c : Dev nD) :
    iprop(invs P K c ∗ atPos ER (barCell c) 1 ∅ 0 ∗ (∃ f, pts0 c f) ∗ postK c 0 ∗ postK c 1 ∗ postK c 2)
      ⊢ (|={Set.univ}=> iprop(semVal (barCell c) 0 ∗ (zeroK c 0 ∗ zeroK c 1 ∗ zeroK c 2) ∗ scr4 c) : sProp 𝕄) := by
  unfold invs
  iintro ⟨⟨#HB, #H0, #H1, #H2⟩, Hat, ⟨%f, Hf⟩, Hp0, Hp1, Hp2⟩
  imod (close_cell P (K (barCell c)) (barCell c)) $$ [Hat] with Hb
  · isplitr; · iexact HB
    iexact Hat
  imod (close_round P K c 0) $$ [Hp0] with ⟨⟨%g0, Hg0⟩, Hz0⟩
  · isplitr; · iexact H0
    iexact Hp0
  imod (close_round P K c 1) $$ [Hp1] with ⟨⟨%g1, Hg1⟩, Hz1⟩
  · isplitr; · iexact H1
    iexact Hp1
  imod (close_round P K c 2) $$ [Hp2] with ⟨⟨%g2, Hg2⟩, Hz2⟩
  · isplitr; · iexact H2
    iexact Hp2
  imodintro
  isplitl [Hb]; · iexact Hb
  isplitl [Hz0 Hz1 Hz2]
  · isplitl [Hz0]; · iexact Hz0
    isplitl [Hz1] <;> iassumption
  unfold scr4
  iapply (rows_join c f g0 g1 g2)
  isplitl [Hf]; · iexact Hf
  isplitl [Hg0]; · iexact Hg0
  isplitl [Hg1] <;> iassumption

/-! ## The body at each point -/

/-- What the pipeline hands the body at point `t`, -/
def got (c : Dev nD) (t : Fin cfg0.N) : sProp 𝕄 :=
  iprop((∃ f : Buf (Elt F) ((st0_0 t).view.loc (c : Thread nD τ)), ⌜(st0_0 t).view.read (Elt F) f = inX m c t⌝ ∗ ptM c (st0_0 t) f)
    ∗ (∃ f : Buf (Elt F) ((st0_1 t).view.loc (c : Thread nD τ)), ⌜(st0_1 t).view.read (Elt F) f = inW m c t⌝ ∗ ptM c (st0_1 t) f)
    ∗ (∃ f : Buf (Elt F) ((st0_2 t).view.loc (c : Thread nD τ)), ⌜(st0_2 t).view.read (Elt F) f = inL m c t⌝ ∗ ptM c (st0_2 t) f))
/-- which are the blocks of its three input windows, -/
theorem got_intro (c : Dev nD) (t : Fin cfg0.N) :
    (iprop((∃ d, owns (c : Thread nD τ) (st0_0 t) fullShare ((dat0 m c).before 0 t d)) ∗ (∃ d, owns (c : Thread nD τ) (st0_1 t) fullShare ((dat0 m c).before 1 t d))
      ∗ (∃ d, owns (c : Thread nD τ) (st0_2 t) fullShare ((dat0 m c).before 2 t d))) : sProp 𝕄) ⊢ got m c t := by
  unfold got
  simp only [before_X, before_W, before_L]
  iintro ⟨⟨%d0, H0⟩, ⟨%d1, H1⟩, ⟨%d2, H2⟩⟩
  isplitl [H0]
  · iapply (Entails.of_eq (owns_isWhole c (st0_0 t) (stage_whole0 0 _) (inX m c t))); iexact H0
  isplitl [H1]
  · iapply (Entails.of_eq (owns_isWhole c (st0_1 t) (stage_whole0 1 _) (inW m c t))); iexact H1
  iapply (Entails.of_eq (owns_isWhole c (st0_2 t) (stage_whole0 2 _) (inL m c t))); iexact H2
/-- and what it takes back. -/
theorem got_elim (c : Dev nD) (t : Fin cfg0.N) :
    (got m c t : sProp 𝕄) ⊢ iprop(owns (c : Thread nD τ) (st0_0 t) fullShare ((dat0 m c).after 0 t) ∗ owns (c : Thread nD τ) (st0_1 t) fullShare ((dat0 m c).after 1 t)
      ∗ owns (c : Thread nD τ) (st0_2 t) fullShare ((dat0 m c).after 2 t)) := by
  unfold got
  iintro ⟨H0, H1, H2⟩
  isplitl [H0]
  · iapply (Entails.of_eq (owns_isWhole c (st0_0 t) (stage_whole0 0 _) (inX m c t)).symm); iexact H0
  isplitl [H1]
  · iapply (Entails.of_eq (owns_isWhole c (st0_1 t) (stage_whole0 1 _) (inW m c t)).symm); iexact H1
  iapply (Entails.of_eq (owns_isWhole c (st0_2 t) (stage_whole0 2 _) (inL m c t)).symm); iexact H2

/-- The body at the first grid step: barrier, first product. -/
theorem step0 (c : Dev nD) (Q : PUnit → sProp 𝕄) :
    iprop(Phi0 m c ∗ owesE c (O₀ c) ∗ got m c t0_0 ∗ ((Phi1 m c ∗ owesE c (owedR c 0) ∗ got m c t0_0) -∗ Q ⟨⟩)) ⊢ wp frame (wpE (defs₀ (F := F)) 𝒱₀ (c : Thread nD τ) none) Set.univ (bodyAt0 (F := F) t0_0) Q := by
  unfold Phi0 Phi1 got fresh ready scr0 scr1 scr2 scr3
  iintro ⟨⟨⟨%K, #HI, #Hlev, Hat, Hcr, Hp0, Hp1, Hp2⟩, Hr, Hreg, ⟨%A, HA⟩, HB, ⟨%s, Hs⟩, ⟨%l, Hl⟩⟩, HO, ⟨⟨%f1, %e1, H1⟩, ⟨%f2, %e2, H2⟩, H3⟩, Hk⟩
  iapply (run0 (PS m) K c (st0_0 t0_0) (stage_whole0 0 _) (st0_1 t0_0) (stage_whole0 1 _) (st0_2 t0_0) (stage_whole0 2 _) (st0_3 t0_0) (stage_whole0 3 _)
    f1 f2 A A s l Q)
  isplitl [H1]; · iexact H1
  isplitl [H2]; · iexact H2
  isplitl [HA]; · iexact HA
  isplitl [Hs]; · iexact Hs
  isplitl [Hl]; · iexact Hl
  isplitr; · iexact HI
  isplitr; · iexact Hlev
  isplitl [Hat]; · iexact Hat
  isplitl [Hcr]; · iexact Hcr
  isplitl [HO]; · iexact HO
  isplitl [Hp0]; · iexact Hp0
  isplitl [Hp1]; · iexact Hp1
  isplitl [Hp2]; · iexact Hp2
  iintro ⟨H1, H2, HA, Hs, Hl, Hat, HO, Hm0, Hm1, Hm2⟩
  iapply Hk
  rw [e1, e2]
  isplitr [HO H1 H2 H3]
  · isplitl [Hat Hm0 Hm1 Hm2]
    · iexists K
      isplitr; · iexact HI
      isplitr; · iexact Hlev
      isplitl [Hat]; · iexact Hat
      isplitl [Hm0]; · iexact Hm0
      isplitl [Hm1] <;> iassumption
    isplitl [Hr]; · iexact Hr
    isplitl [Hreg]; · iexact Hreg
    isplitl [HA]; · iexact HA
    isplitl [HB]; · iexact HB
    isplitl [Hs]; · iexact Hs
    iexact Hl
  isplitl [HO]; · iexact HO
  isplitl [H1]
  · iexists f1; isplitr; · ipureintro; exact e1
    iexact H1
  isplitl [H2]
  · iexists f2; isplitr; · ipureintro; exact e2
    iexact H2
  iexact H3

/-- The body at the second grid step: product, and the first product consumed. -/
theorem step1 (c : Dev nD) (Q : PUnit → sProp 𝕄) :
    iprop(Phi1 m c ∗ owesE c (owedR c 0) ∗ got m c t0_1 ∗ ((Phi2 m c ∗ owesE c (owedR c 0) ∗ got m c t0_1) -∗ Q ⟨⟩)) ⊢ wp frame (wpE (defs₀ (F := F)) 𝒱₀ (c : Thread nD τ) none) Set.univ (bodyAt0 (F := F) t0_1) Q := by
  unfold Phi1 Phi2 got scr0 scr1 scr2 scr3
  iintro ⟨⟨HK, Hr, Hreg, HA, ⟨%B, HB⟩, Hs, Hl⟩, HO, ⟨⟨%f1, %e1, H1⟩, ⟨%f2, %e2, H2⟩, ⟨%f3, %e3, H3⟩⟩, Hk⟩
  iapply (run1 c (st0_0 t0_1) (stage_whole0 0 _) (st0_1 t0_1) (stage_whole0 1 _) (st0_2 t0_1) (stage_whole0 2 _) (st0_3 t0_1) (stage_whole0 3 _)
    f1 f2 f3 (lg0 m c) B k0_pay53 k0_pay54 Q)
  isplitl [H1]; · iexact H1
  isplitl [H2]; · iexact H2
  isplitl [H3]; · iexact H3
  isplitl [HA]; · iexact HA
  isplitl [HB]; · iexact HB
  isplitl [Hs]; · iexact Hs
  isplitl [Hl]; · iexact Hl
  iintro ⟨H1, H2, H3, HA, HB, Hs, Hl⟩
  iapply Hk
  rw [e1, e2, e3]
  isplitr [HO H1 H2 H3]
  · isplitl [HK]; · iexact HK
    isplitl [Hr]; · iexact Hr
    isplitl [Hreg]; · iexact Hreg
    isplitl [HA]; · iexists _; iexact HA
    isplitl [HB]; · iexact HB
    isplitl [Hs]; · iexact Hs
    iexact Hl
  isplitl [HO]; · iexact HO
  isplitl [H1]
  · iexists f1; isplitr; · ipureintro; exact e1
    iexact H1
  isplitl [H2]
  · iexists f2; isplitr; · ipureintro; exact e2
    iexact H2
  iexists f3; isplitr; · ipureintro; exact e3
  iexact H3

/-- The body at the third grid step: product, and the second product consumed. -/
theorem step2 (c : Dev nD) (Q : PUnit → sProp 𝕄) :
    iprop(Phi2 m c ∗ owesE c (owedR c 0) ∗ got m c t0_2 ∗ ((Phi3 m c ∗ owesE c (owedR c 0) ∗ got m c t0_2) -∗ Q ⟨⟩)) ⊢ wp frame (wpE (defs₀ (F := F)) 𝒱₀ (c : Thread nD τ) none) Set.univ (bodyAt0 (F := F) t0_2) Q := by
  unfold Phi2 Phi3 got scr0 scr1 scr2 scr3
  iintro ⟨⟨HK, Hr, Hreg, ⟨%A, HA⟩, HB, Hs, Hl⟩, HO, ⟨⟨%f1, %e1, H1⟩, ⟨%f2, %e2, H2⟩, ⟨%f3, %e3, H3⟩⟩, Hk⟩
  iapply (run2 c (st0_0 t0_2) (stage_whole0 0 _) (st0_1 t0_2) (stage_whole0 1 _) (st0_2 t0_2) (stage_whole0 2 _) (st0_3 t0_2) (stage_whole0 3 _)
    f1 f2 f3 A (lg1 m c) (sm1 m c) (pk1 m c) Q)
  isplitl [H1]; · iexact H1
  isplitl [H2]; · iexact H2
  isplitl [H3]; · iexact H3
  isplitl [HA]; · iexact HA
  isplitl [HB]; · iexact HB
  isplitl [Hs]; · iexact Hs
  isplitl [Hl]; · iexact Hl
  iintro ⟨H1, H2, H3, HA, HB, Hs, Hl⟩
  iapply Hk
  rw [e1, e2, e3]
  isplitr [HO H1 H2 H3]
  · isplitl [HK]; · iexact HK
    isplitl [Hr]; · iexact Hr
    isplitl [Hreg]; · iexact Hreg
    isplitl [HA]; · iexact HA
    isplitl [HB]; · iexists _; iexact HB
    isplitl [Hs]; · iexact Hs
    iexact Hl
  isplitl [HO]; · iexact HO
  isplitl [H1]
  · iexists f1; isplitr; · ipureintro; exact e1
    iexact H1
  isplitl [H2]
  · iexists f2; isplitr; · ipureintro; exact e2
    iexact H2
  iexists f3; isplitr; · ipureintro; exact e3
  iexact H3

/-- The body at the last grid step: the last two products consumed, the three rounds, the result stored. -/
theorem step3 (c : Dev nD) (f4 : Buf (Elt F) ((st0_3 t0_3).view.loc (c : Thread nD τ))) (Q : PUnit → sProp 𝕄) :
    iprop(Phi3 m c ∗ owesE c (owedR c 0) ∗ got m c t0_3 ∗ ptM c (st0_3 t0_3) f4
      ∗ ((Phi4 c ∗ owesE c 0 ∗ got m c t0_3
          ∗ (∃ f : Buf (Elt F) ((st0_3 t0_3).view.loc (c : Thread nD τ)), ⌜(st0_3 t0_3).view.read (Elt F) f = outV m c⌝ ∗ ptM c (st0_3 t0_3) f)) -∗ Q ⟨⟩)) ⊢ wp frame (wpE (defs₀ (F := F)) 𝒱₀ (c : Thread nD τ) none) Set.univ (bodyAt0 (F := F) t0_3) Q := by
  unfold Phi3 Phi4 got ready scr0 scr1 scr2 scr3
  iintro ⟨⟨⟨%K, #HI, #Hlev, Hat, Hm0, Hm1, Hm2⟩, ⟨%r0, Hr⟩, Hreg, HA, ⟨%B, HB⟩, Hs, Hl⟩, HO, ⟨⟨%f1, %e1, H1⟩, ⟨%f2, %e2, H2⟩, ⟨%f3, %e3, H3⟩⟩, H4, Hk⟩
  have hS : smE m c = sum4 (k0_pay26 ((st0_0 t0_3).view.read (Elt F) f1) ((st0_1 t0_3).view.read (Elt F) f2)) (sum3 (lg2 m c) (sm2 m c)) := by
    rw [e1, e2]; rfl
  have hL : pkE m c = lab4 (baseWord c) (k0_pay26 ((st0_0 t0_3).view.read (Elt F) f1) ((st0_1 t0_3).view.read (Elt F) f2)) ((st0_2 t0_3).view.read (Elt F) f3)
      (lab3 (baseWord c) (lg2 m c) ((st0_2 t0_3).view.read (Elt F) f3) (pk2 m c)) := by
    rw [e1, e2, e3]; rfl
  have hP0 : PS m 0 c = sent0 (smE m c) (pkE m c) := rfl
  have hP1 : PS m 1 c = sent1 (smE m c) (pkE m c) (PS m 0 (pr 0 c)) := rfl
  have hP2 : PS m 2 c = sent2 (smE m c) (pkE m c) (PS m 0 (pr 0 c)) (PS m 1 (pr 1 c)) := rfl
  iapply (wp_fupd _ _ _ _ _)
  iapply (run3 (PS m) K c (st0_0 t0_3) (stage_whole0 0 _) (st0_1 t0_3) (stage_whole0 1 _) (st0_2 t0_3) (stage_whole0 2 _) (st0_3 t0_3) (stage_whole0 3 _)
    f1 f2 f3 f4 (lg2 m c) B (sm2 m c) (pk2 m c) r0 (smE m c) (pkE m c) hS hL hP0 hP1 hP2 _)
  isplitl [H1]; · iexact H1
  isplitl [H2]; · iexact H2
  isplitl [H3]; · iexact H3
  isplitl [H4]; · iexact H4
  isplitl [HA]; · iexact HA
  isplitl [HB]; · iexact HB
  isplitl [Hs]; · iexact Hs
  isplitl [Hl]; · iexact Hl
  isplitr; · iexact HI
  isplitr; · iexact Hlev
  isplitl [HO]; · iexact HO
  isplitl [Hr]; · iexact Hr
  isplitl [Hm0]; · iexact Hm0
  isplitl [Hm1]; · iexact Hm1
  isplitl [Hm2]; · iexact Hm2
  iintro ⟨H1, H2, H3, H4, HA, HB, Hs, Hl, HO, Hr, Hp0, Hp1, Hp2⟩
  imod (close_all (PS m) K c) $$ [Hat Hr Hp0 Hp1 Hp2] with ⟨Hb, Hz, H5⟩
  · isplitr; · iexact HI
    isplitl [Hat]; · iexact Hat
    isplitl [Hr]; · iexact Hr
    isplitl [Hp0]; · iexact Hp0
    isplitl [Hp1] <;> iassumption
  imodintro
  iapply Hk
  isplitr [HO H1 H2 H3 H4]
  · isplitl [Hb]; · iexact Hb
    isplitl [Hz]; · iexact Hz
    isplitl [H5]; · iexact H5
    isplitl [Hreg]; · iexact Hreg
    isplitl [HA]; · iexists _; iexact HA
    isplitl [HB]; · iexact HB
    isplitl [Hs]; · iexact Hs
    iexact Hl
  isplitl [HO]; · iexact HO
  isplitr [H4]
  · isplitl [H1]
    · iexists f1; isplitr; · ipureintro; exact e1
      iexact H1
    isplitl [H2]
    · iexists f2; isplitr; · ipureintro; exact e2
      iexact H2
    iexists f3; isplitr; · ipureintro; exact e3
    iexact H3
  iexact H4

/-- The result window is idle until the last point, and is not written back before it. -/
theorem idle3_0 : cfg0.idle 3 (cfg0.grid.coords t0_0) = true := by decide
/-- The result is not stored at the second step. -/
theorem idle3_1 : cfg0.idle 3 (cfg0.grid.coords t0_1) = true := by decide
/-- The result is not stored at the third step. -/
theorem idle3_2 : cfg0.idle 3 (cfg0.grid.coords t0_2) = true := by decide
/-- The result is stored at the last step. -/
theorem idle3_3 : cfg0.idle 3 (cfg0.grid.coords t0_3) = false := by decide
/-- The result is written back at the last step alone. -/
theorem flush3 (t : Fin cfg0.N) (h : ¬ t.val % 4 = 3) : (cfg0.win 3).flush t = false :=
  Bool.eq_false_iff.mpr fun e => h ((flush0_3 t).mp e)

/-- The body obligation of the pipeline, point by point. -/
theorem body (c : Dev nD) : BodyObligation (dat0 m c) (defs₀ (F := F)) 𝒱₀ () Set.univ := fun t => by
  rw [bigSep_W0, bigSep_W0]
  rcases fin_N0 t with rfl | rfl | rfl | rfl
  · rw [idle3_0, flush3 t0_0 (by decide)]
    show iprop(Phi0 m c ∗ (dat0 m c).owesAt () t0_0.castSucc ∗ _) ⊢ wp frame _ _ (bodyAt0 (F := F) t0_0) (fun _ => iprop(Phi1 m c ∗ (dat0 m c).owesAt () t0_0.succ ∗ _))
    iintro ⟨HP, HO, H0, H1, H2, H3⟩
    ihave HO := (owes_elim m c t0_0.castSucc (O₀ c) rfl) $$ HO
    ihave HG := (got_intro m c t0_0) $$ [H0 H1 H2]
    · isplitl [H0]; · iexact H0
      isplitl [H1] <;> iassumption
    iapply (step0 m c _)
    isplitl [HP]; · iexact HP
    isplitl [HO]; · iexact HO
    isplitl [HG]; · iexact HG
    iintro ⟨HP, HO, HG⟩
    ihave HG := (got_elim m c t0_0) $$ HG
    icases HG with ⟨H0, H1, H2⟩
    isplitl [HP]; · iexact HP
    isplitl [HO]; · iapply (owes_intro m c t0_0.succ (owedR c 0) rfl); iexact HO
    isplitl [H0]; · iexact H0
    isplitl [H1]; · iexact H1
    isplitl [H2]; · iexact H2
    iexact H3
  · rw [idle3_1, flush3 t0_1 (by decide)]
    show iprop(Phi1 m c ∗ (dat0 m c).owesAt () t0_1.castSucc ∗ _) ⊢ wp frame _ _ (bodyAt0 (F := F) t0_1) (fun _ => iprop(Phi2 m c ∗ (dat0 m c).owesAt () t0_1.succ ∗ _))
    iintro ⟨HP, HO, H0, H1, H2, H3⟩
    ihave HO := (owes_elim m c t0_1.castSucc (owedR c 0) rfl) $$ HO
    ihave HG := (got_intro m c t0_1) $$ [H0 H1 H2]
    · isplitl [H0]; · iexact H0
      isplitl [H1] <;> iassumption
    iapply (step1 m c _)
    isplitl [HP]; · iexact HP
    isplitl [HO]; · iexact HO
    isplitl [HG]; · iexact HG
    iintro ⟨HP, HO, HG⟩
    ihave HG := (got_elim m c t0_1) $$ HG
    icases HG with ⟨H0, H1, H2⟩
    isplitl [HP]; · iexact HP
    isplitl [HO]; · iapply (owes_intro m c t0_1.succ (owedR c 0) rfl); iexact HO
    isplitl [H0]; · iexact H0
    isplitl [H1]; · iexact H1
    isplitl [H2]; · iexact H2
    iexact H3
  · rw [idle3_2, flush3 t0_2 (by decide)]
    show iprop(Phi2 m c ∗ (dat0 m c).owesAt () t0_2.castSucc ∗ _) ⊢ wp frame _ _ (bodyAt0 (F := F) t0_2) (fun _ => iprop(Phi3 m c ∗ (dat0 m c).owesAt () t0_2.succ ∗ _))
    iintro ⟨HP, HO, H0, H1, H2, H3⟩
    ihave HO := (owes_elim m c t0_2.castSucc (owedR c 0) rfl) $$ HO
    ihave HG := (got_intro m c t0_2) $$ [H0 H1 H2]
    · isplitl [H0]; · iexact H0
      isplitl [H1] <;> iassumption
    iapply (step2 m c _)
    isplitl [HP]; · iexact HP
    isplitl [HO]; · iexact HO
    isplitl [HG]; · iexact HG
    iintro ⟨HP, HO, HG⟩
    ihave HG := (got_elim m c t0_2) $$ HG
    icases HG with ⟨H0, H1, H2⟩
    isplitl [HP]; · iexact HP
    isplitl [HO]; · iapply (owes_intro m c t0_2.succ (owedR c 0) rfl); iexact HO
    isplitl [H0]; · iexact H0
    isplitl [H1]; · iexact H1
    isplitl [H2]; · iexact H2
    iexact H3
  · rw [idle3_3]
    show iprop(Phi3 m c ∗ (dat0 m c).owesAt () t0_3.castSucc ∗ _) ⊢ wp frame _ _ (bodyAt0 (F := F) t0_3) (fun _ => iprop(Phi4 c ∗ (dat0 m c).owesAt () t0_3.succ ∗ _))
    iintro ⟨HP, HO, H0, H1, H2, ⟨%d3, H3⟩⟩
    ihave HO := (owes_elim m c t0_3.castSucc (owedR c 0) rfl) $$ HO
    ihave HG := (got_intro m c t0_3) $$ [H0 H1 H2]
    · isplitl [H0]; · iexact H0
      isplitl [H1] <;> iassumption
    ihave H3 := (Entails.of_eq (owns_isWhole c (st0_3 t0_3) (stage_whole0 3 _) _)) $$ H3
    icases H3 with ⟨%f4, -, H3⟩
    iapply (step3 m c f4 _)
    isplitl [HP]; · iexact HP
    isplitl [HO]; · iexact HO
    isplitl [HG]; · iexact HG
    isplitl [H3]; · iexact H3
    iintro ⟨HP, HO, HG, H3⟩
    ihave HG := (got_elim m c t0_3) $$ HG
    icases HG with ⟨H0, H1, H2⟩
    isplitl [HP]; · iexact HP
    isplitl [HO]; · iapply (owes_intro m c t0_3.succ 0 rfl); iexact HO
    isplitl [H0]; · iexact H0
    isplitl [H1]; · iexact H1
    isplitl [H2]; · iexact H2
    iapply (Entails.of_eq (owns_isWhole c (st0_3 t0_3) (stage_whole0 3 _) (outV m c)).symm); iexact H3

end Cert.Run

end
-- ==== Proof.Region.lean ====
/-
# The kernel region as one segment of the device's program

The region is entered holding the arrays as the host stretch left them and what the launch dealt the device for the exchange; at
its entry the six copy cells are opened, their counters being the region's own. It is left with the result array rewritten, every
counter of the exchange at zero and nothing owed.
-/
module

public import proofs.«01_k».proof.Proof.Obl
public import Idealize.ShloMosaic.Lib.Pipeline.RegionTalk
public import Idealize.ShloMosaic.Lib.Pipeline.Regions

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ UU ℕ

variable (m : (ℓ : Loc nD τ sig) → Buf (Elt F) ℓ)

/-! ## The copy cells -/

/-- The region's own six semaphores: the send and the receive cell of each round. -/
abbrev osem : Fin 6 → SemLoc sig := fun
  | 0 => .dma (sendS 0) | 1 => .dma (recvS 0) | 2 => .dma (sendS 1) | 3 => .dma (recvS 1) | 4 => .dma (sendS 2) | 5 => .dma (recvS 2)

/-- The call's own semaphores are those of the three rounds. -/
theorem ownSems_eq (c : Dev nD) : (Pipeline.ownSems0 osem c : sProp 𝕄) ⊣⊢ iprop(zeroK c 0 ∗ zeroK c 1 ∗ zeroK c 2) := by
  unfold Pipeline.ownSems0 zeroK
  rw [bigSep_univ_eq_bigSepL [0, 1, 2, 3, 4, 5] (by decide) (by decide)]
  constructor
  · show iprop(semVal (sendCell 0 c) 0 ∗ semVal (recvCell 0 c) 0 ∗ semVal (sendCell 1 c) 0 ∗ semVal (recvCell 1 c) 0 ∗ semVal (sendCell 2 c) 0 ∗ semVal (recvCell 2 c) 0) ⊢ _
    iintro ⟨H0, H1, H2, H3, H4, H5⟩
    isplitl [H0 H1]; · isplitl [H0] <;> iassumption
    isplitl [H2 H3]; · isplitl [H2] <;> iassumption
    isplitl [H4] <;> iassumption
  · show _ ⊢ iprop(semVal (sendCell 0 c) 0 ∗ semVal (recvCell 0 c) 0 ∗ semVal (sendCell 1 c) 0 ∗ semVal (recvCell 1 c) 0 ∗ semVal (sendCell 2 c) 0 ∗ semVal (recvCell 2 c) 0)
    iintro ⟨⟨H0, H1⟩, ⟨H2, H3⟩, H4, H5⟩
    isplitl [H0]; · iexact H0
    isplitl [H1]; · iexact H1
    isplitl [H2]; · iexact H2
    isplitl [H3]; · iexact H3
    isplitl [H4] <;> iassumption

/-! ## From what the launch dealt to what the first point needs -/

/-- What the launch deals a device for round `k`. -/
def dealK (c : Dev nD) (k : Fin 3) : sProp 𝕄 :=
  iprop((openTok ER (sendCell k c) ∗ openTok ER (recvCell k c)) ∗ reached ER (barCell (pr k c)) 0
    ∗ (dutyTok ER (barCell (pr k c)) 0 k ∗ dutyTok ER (sendCell k c) 0 0 ∗ dutyTok ER (recvCell k (pr k c)) 0 0) ∗ cred (tallyAt (recvCell k c) () N))
/-- The same, once its two cells are open. -/
def openK (c : Dev nD) (k : Fin 3) : sProp 𝕄 :=
  iprop(reached ER (recvCell k c) 0 ∗ reached ER (barCell (pr k c)) 0 ∗ dutyTok ER (barCell (pr k c)) 0 k ∗ keepK c k)

/-- All the launch deals a device. -/
def Tk (c : Dev nD) : sProp 𝕄 :=
  iprop(∃ K, invs (PS m) K c ∗ atPos ER (barCell c) 0 ∅ 0 ∗ cred (tallyAt (barCell c) () 3) ∗ dealK c 0 ∗ dealK c 1 ∗ dealK c 2)
/-- The same, every cell open. -/
def Xk (c : Dev nD) : sProp 𝕄 :=
  iprop(∃ K, invs (PS m) K c ∗ levAts L lv ∗ atPos ER (barCell c) 0 ∅ 0 ∗ cred (tallyAt (barCell c) () 3) ∗ openK c 0 ∗ openK c 1 ∗ openK c 2)
/-- What is left of the exchange after the region: the barrier's counter at zero. -/
def Yk (c : Dev nD) : sProp 𝕄 := semVal (barCell c) 0

variable (P : Fin 3 → Dev nD → Box F)

/-- The two cells of round k are opened. -/
theorem open_round (K : GSem nD τ sig → ℕ) (c : Dev nD) (k : Fin 3) :
    iprop(invK P K c k ∗ dealK c k ∗ zeroK c k) ⊢ (|={Set.univ}=> openK c k : sProp 𝕄) := by
  unfold invK dealK zeroK openK keepK
  iintro ⟨⟨#HS, #HV, -, -⟩, ⟨⟨HoS, HoV⟩, #HrB, ⟨HtB, HtS, HtV⟩, Hc⟩, HzS, HzV⟩
  imod (Rounds.cell_open ER (exRd P) (g := sendCell k c) (Set.mem_univ (K (sendCell k c)))) $$ [HoS HzS] with ⟨HatS, #HrS⟩
  · isplitr; · iexact HS
    isplitl [HoS] <;> iassumption
  imod (Rounds.cell_open ER (exRd P) (g := recvCell k c) (Set.mem_univ (K (recvCell k c)))) $$ [HoV HzV] with ⟨HatV, #HrV⟩
  · isplitr; · iexact HV
    isplitl [HoV] <;> iassumption
  imodintro
  isplitr; · iexact HrV
  isplitr; · iexact HrB
  isplitl [HtB]; · iexact HtB
  isplitl [HtS]; · iexact HtS
  isplitr; · iexact HrS
  isplitl [HtV]; · iexact HtV
  isplitl [Hc]; · iexact Hc
  isplitl [HatS] <;> iassumption

/-- All cells of the exchange are opened when the call begins. -/
theorem hopen (c : Dev nD) : iprop(Tk m c ∗ Pipeline.ownSems0 osem c ∗ levAts L lv) ⊢ (|={Set.univ}=> Xk m c : sProp 𝕄) := by
  unfold Tk Xk invs
  iintro ⟨⟨%K, ⟨#HB, #H0, #H1, #H2⟩, Hat, Hc, Hd0, Hd1, Hd2⟩, Hz, #Hlev⟩
  ihave Hz := (ownSems_eq (F := F) c).1 $$ Hz
  icases Hz with ⟨Hz0, Hz1, Hz2⟩
  imod (open_round (PS m) K c 0) $$ [Hd0 Hz0] with Ho0
  · isplitr; · iexact H0
    isplitl [Hd0] <;> iassumption
  imod (open_round (PS m) K c 1) $$ [Hd1 Hz1] with Ho1
  · isplitr; · iexact H1
    isplitl [Hd1] <;> iassumption
  imod (open_round (PS m) K c 2) $$ [Hd2 Hz2] with Ho2
  · isplitr; · iexact H2
    isplitl [Hd2] <;> iassumption
  imodintro
  iexists K
  isplitr
  · isplitr; · iexact HB
    isplitr; · iexact H0
    isplitr; · iexact H1
    iexact H2
  isplitr; · iexact Hlev
  isplitl [Hat]; · iexact Hat
  isplitl [Hc]; · iexact Hc
  isplitl [Ho0]; · iexact Ho0
  isplitl [Ho1] <;> iassumption

/-- An open round and its landing row are what the barrier signal is paid with. -/
theorem preK_intro (c : Dev nD) (k : Fin 3) (f : cc0_scratch4.ty.Contents (Elt F)) : iprop(ptsL k c f ∗ openK c k) ⊢ (preK c k : sProp 𝕄) := by
  unfold openK preK
  iintro ⟨Hf, H⟩
  isplitl [Hf]; · iexists f; iexact Hf
  iexact H

/-- What the first point starts from. -/
theorem enter (c : Dev nD) (V : Valuation τ sig (Elt F)) :
    iprop(Pipeline.scopedRest spec0 c ∗ (∃ r, prngReg c r) ∗ StableHlo.held (c.tc : Thread nD τ) ∅ V ∗ Xk m c) ⊢ (Phi0 m c : sProp 𝕄) := by
  rw [scopedRest0_eq]
  unfold Xk Phi0 fresh reg scr0 scr1 scr2 scr3
  iintro ⟨⟨H0, H1, H2, H3, ⟨%f, H4⟩⟩, Hp, -, ⟨%K, #HI, #Hlev, Hat, Hc, Ho0, Ho1, Ho2⟩⟩
  ihave H4 := (rows_split c f) $$ H4
  icases H4 with ⟨Hr, Hr0, Hr1, Hr2⟩
  isplitl [Hat Hc Ho0 Ho1 Ho2 Hr0 Hr1 Hr2]
  · iexists K
    isplitr; · iexact HI
    isplitr; · iexact Hlev
    isplitl [Hat]; · iexact Hat
    isplitl [Hc]; · iexact Hc
    isplitl [Ho0 Hr0]; · iapply (preK_intro c 0 f); isplitl [Hr0] <;> iassumption
    isplitl [Ho1 Hr1]; · iapply (preK_intro c 1 f); isplitl [Hr1] <;> iassumption
    iapply (preK_intro c 2 f); isplitl [Hr2] <;> iassumption
  isplitl [Hr]; · iexists f; iexact Hr
  isplitl [Hp]; · iexact Hp
  isplitl [H0]; · iexact H0
  isplitl [H1]; · iexact H1
  isplitl [H2]; · iexact H2
  iexact H3

/-- What the last point leaves. -/
theorem leave (c : Dev nD) (V : Valuation τ sig (Elt F)) :
    (Phi4 c : sProp 𝕄) ⊢ iprop(Pipeline.scopedRest spec0 c ∗ (∃ r, prngReg c r) ∗ StableHlo.held (c.tc : Thread nD τ) ∅ V ∗ Pipeline.ownSems0 osem c ∗ Yk c) := by
  rw [scopedRest0_eq, show (StableHlo.held (c.tc : Thread nD τ) ∅ V : sProp 𝕄) = BI.emp from BI.bigSep_empty]
  unfold Phi4 scr4 reg scr0 scr1 scr2 scr3 Yk
  iintro ⟨Hb, Hz, H4, Hp, H0, H1, H2, H3⟩
  isplitl [H0 H1 H2 H3 H4]
  · isplitl [H0]; · iexact H0
    isplitl [H1]; · iexact H1
    isplitl [H2]; · iexact H2
    isplitl [H3]; · iexact H3
    iexact H4
  isplitl [Hp]; · iexact Hp
  isplitr; · iempintro
  isplitl [Hz]; · iapply (ownSems_eq (F := F) c).2; iexact Hz
  iexact Hb

/-! ## The record -/

/-- The result array after the region. -/
def res (c : Dev nD) : Buf (Elt F) ((c : Thread nD τ).loc main_v19) := (dat0 m c).arrAt 3 cfg0.N
/-- What the region leaves in the array it may change. -/
def outs : Outs (F := F) := fun _ r c => Function.update (V1 m c) main_v19 (res m c) r

/-- The call's result array. -/
theorem outs_v19 (c : Dev nD) : outs m 2 main_v19 c = res m c := Function.update_self ..

/-- The proof data of the program's one region. -/
abbrev pdats (p : Fin 1) (c : Dev nD) : Dat τ (Elt F) Unit ℕ UU ℕ (cfgs p) c := dat0 m c

/-- The launch's side conditions. -/
theorem kitP : Pipeline.PLaunchFacts (nD := nD) (τ := τ) (pcfgs (F := F)) 0 := launch0.toP

/-- The call's arrays. -/
abbrev arrs : Finset (DevRef τ sig) := Pipeline.arrRefs (τ := τ) spec0
/-- The arrays that the call leaves alone. -/
abbrev others : Finset (DevRef τ sig) := Pipeline.ucRefs τ sig \ arrs

/-- The call's arrays are arrays of the program. -/
theorem arrs_sub : arrs ⊆ Pipeline.ucRefs τ sig := Pipeline.arrRefs_sub_ucRefs spec0 winFacts0.arr_unscoped

/-- The result array is one of the call's arrays. -/
theorem v19_mem : (Proc.devRef .tc main_v19 : DevRef τ sig) ∈ arrs :=
  Finset.mem_map.mpr ⟨main_v19, Finset.mem_image.mpr ⟨3, Finset.mem_univ _, rfl⟩, rfl⟩

/-- The call leaves the other arrays as they are. -/
theorem rest_same (c : Dev nD) (b : DevRef τ sig) (hb : b ∈ others \ ∅) : V2 m (outs m) c b = V1 m c b :=
  Function.update_of_ne (fun h => (Finset.mem_sdiff.mp (Finset.mem_sdiff.mp hb).1).2 (by rw [h]; exact v19_mem)) _ _

/-- The call holds its arrays whole. -/
theorem share_full (c : Dev nD) (w : Fin 4) : (dat0 m c).share w = fullShare := by
  unfold Dat.share; split <;> rfl

/-- The arrays before the call. -/
theorem arr_in (c : Dev nD) (w : Fin 4) : (dat0 m c).arrAt w 0 = V1 m c (Proc.devRef .tc (Pipeline.arrRef spec0 w)) := rfl

/-- The arrays after the call. -/
theorem arr_out (c : Dev nD) (w : Fin 4) : (dat0 m c).arrAt w cfg0.N = V2 m (outs m) c (Proc.devRef .tc (Pipeline.arrRef spec0 w)) := by
  match w with
  | 0 => exact ((dat0 m c).arrAt_in 0 rfl _).trans (V2_of m (outs m) c main_v2 (by decide)).symm
  | 1 => exact ((dat0 m c).arrAt_in 1 rfl _).trans (V2_of m (outs m) c main_v18 (by decide)).symm
  | 2 => exact ((dat0 m c).arrAt_in 2 rfl _).trans (V2_of m (outs m) c main_v1 (by decide)).symm
  | 3 => exact ((Function.update_self (Proc.devRef .tc main_v19 : DevRef τ sig) (outs m 2 main_v19 c) (V1 m c)).trans (outs_v19 m c)).symm

/-- Whatever is owed at a point sits above the level of the staging cells. -/
theorem owed_above (c : Dev nD) (t : ℕ) (g : GSem nD τ sig) (i : Unit) (h : 0 < owedAt c t g i) : i ∈ L g ∧ 0 < lv g i := by
  match t with
  | 0 => exact O₀_pos c h
  | 1 => exact owedR_pos' c 0 h
  | 2 => exact owedR_pos' c 0 h
  | 3 => exact owedR_pos' c 0 h
  | _ + 4 => exact absurd h (Nat.lt_irrefl 0)

/-- The pipeline's own semaphores are at level 0. -/
theorem stage_lv (c : Dev nD) : ∀ (w : Fin 4) (s : Fin (spec0 w).nbuf), lv ((c : Thread nD τ), .dma ((spec0 w).sem s)) () ≤ 0 := by
  have h : ∀ (w : Fin 4) (s : Fin (spec0 w).nbuf), recvIx (SemLoc.dma ((spec0 w).sem s) : SemLoc sig) = none := by decide
  intro w s
  dsimp only [lv]
  rw [if_neg (fun h => by cases h), h w s]

set_option backward.isDefEq.respectTransparency.types false in
/-- THE REGION. -/
def R0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body m c).loose)
    (fun _ => 0) O₀ (fun c => (zero_add _).symm) (fun c => rfl) (fun _ => rfl) (fun c w => share_full m c w)
    (V1 m) (V2 m (outs m)) (rest_same m)
    (Tk m) Yk (Xk m) Yk (hopen m) (fun c => enter m c _) (fun c => leave c _)
    (fun c => by iintro H; imodintro; iexact H)
    (fun _ => 0)
    ⟨fun c w s => by rw [L_tc]; exact Finset.mem_singleton_self _, fun c w s => stage_lv c w s, fun c t g i h => owed_above c t.val g i h⟩
    (fun _ => iprop(emp))
    (arr_in m) (arr_out m)

/-! ## Entering and leaving it between the host stretches -/

/-- What rides beside the buffers before the region, and after it. -/
def E (j : Fin 2) (c : Dev nD) : sProp 𝕄 :=
  match j with
  | 0 => iprop(Tk m c ∗ (∃ r, prngReg c r) ∗ ∃ W, owes (c : Thread nD τ) (O₀ c) W)
  | 1 => iprop(semVal (barCell c) 0 ∗ ∃ W, owes (c : Thread nD τ) (0 : CellTallies nD τ sig Unit) W)

/-- The call may begin. -/
theorem hpre (c : Dev nD) : iprop(StableHlo.held (c : Thread nD τ) (Pipeline.ucRefs τ sig) (V1 m c) ∗ E m 0 c) ⊢ (R0 m).pre c := by
  show _ ⊢ iprop(StableHlo.held (c.tc : Thread nD τ) arrs (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c : Thread nD τ) arrs_sub (V1 m c)]
  show iprop((_ ∗ _) ∗ Tk m c ∗ (∃ r, prngReg c r) ∗ ∃ W, owes (c : Thread nD τ) (O₀ c) W) ⊢ _
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the program holds after the call. -/
theorem hpost (c : Dev nD) : (R0 m).post c ⊢ iprop(StableHlo.held (c : Thread nD τ) (Pipeline.ucRefs τ sig) (V2 m (outs m) c) ∗ E m 1 c) := by
  show iprop(StableHlo.held (c.tc : Thread nD τ) arrs (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd)
    ⊢ iprop(_ ∗ semVal (barCell c) 0 ∗ ∃ W, owes (c : Thread nD τ) (0 : CellTallies nD τ sig Unit) W)
  rw [StableHlo.held_sub_split (c : Thread nD τ) arrs_sub (V2 m (outs m) c)]
  unfold Yk
  iintro ⟨Ha, -, ⟨Ho, -⟩, Hb, HO⟩
  isplitl [Ha Ho]; · isplitl [Ha] <;> iassumption
  isplitl [Hb]; · iexact Hb
  iexact HO

end Cert.Run

end
-- ==== Proof.Launch.lean ====
/-
# The launch: every cell of the exchange created, and its tokens dealt to the devices

The barrier cells are created from their counters; the copy cells are created dormant, since their counters are the kernel
region's own. The token of each duty goes to the device that pays it: the barrier's and the receive cells' to the partner.
-/
module

public import proofs.«01_k».proof.Proof.Region

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The two copy semaphores of a round. -/
abbrev xsem (k : Fin 3) (i : Fin 2) : SemLoc sig := match i with | 0 => .dma (sendS k) | 1 => .dma (recvS k)
/-- The six copy semaphores differ. -/
theorem xsem_inj : Function.Injective (fun x : Fin 3 × Fin 2 => xsem x.1 x.2) := by decide
/-- No copy semaphore is the barrier. -/
theorem xsem_ne_bar : ∀ (k : Fin 3) (i : Fin 2), xsem k i ≠ .reg barS := by decide

/-- The barrier cell of each device. -/
def barEmb : Dev nD ↪ GSem nD τ sig := ⟨fun c => barCell c, fun _ _ h => congrArg (fun g : GSem nD τ sig => g.1.1) h⟩
/-- The send and receive cells of each device and round. -/
def copyEmb : (Dev nD × Fin 3) × Fin 2 ↪ GSem nD τ sig :=
  ⟨fun x => ((x.1.1 : Thread nD τ), xsem x.1.2 x.2), fun x y h => by
    have h1 : x.1.1 = y.1.1 := congrArg (fun g : GSem nD τ sig => g.1.1) h
    have h2 : (x.1.2, x.2) = (y.1.2, y.2) := xsem_inj (congrArg Prod.snd h)
    exact Prod.ext (Prod.ext h1 (Prod.mk.inj h2).1) (Prod.mk.inj h2).2⟩

/-- All barrier cells. -/
abbrev barCells : Finset (GSem nD τ sig) := Finset.univ.map barEmb
/-- All send and receive cells. -/
abbrev copyCells : Finset (GSem nD τ sig) := Finset.univ.map copyEmb

/-- The semaphore and the number of each of a round's three duties. -/
abbrev duty (k : Fin 3) (i : Fin 3) : SemLoc sig × Fin 3 := match i with | 0 => (.reg barS, k) | 1 => (.dma (sendS k), 0) | 2 => (.dma (recvS k), 0)
/-- The three duties of a device in the three rounds differ. -/
theorem duty_inj : Function.Injective (fun x : Fin 3 × Fin 3 => duty x.1 x.2) := by decide

/-- The tokens of all duties. -/
def toks : Finset (GSem nD τ sig × ℕ × Fin 3) :=
  Finset.univ.map ⟨fun x : (Dev nD × Fin 3) × Fin 3 => (((x.1.1 : Thread nD τ), (duty x.1.2 x.2).1), 0, (duty x.1.2 x.2).2), fun x y h => by
    have h1 : x.1.1 = y.1.1 := congrArg (fun t : GSem nD τ sig × ℕ × Fin 3 => t.1.1.1) h
    have h2 : (x.1.2, x.2) = (y.1.2, y.2) := duty_inj (Prod.ext (congrArg (fun t : GSem nD τ sig × ℕ × Fin 3 => t.1.2) h)
      (congrArg (fun t : GSem nD τ sig × ℕ × Fin 3 => t.2.2) h))
    exact Prod.ext (Prod.ext h1 (Prod.mk.inj h2).1) (Prod.mk.inj h2).2⟩

/-- Barrier cells are no copy cells. -/
theorem disjoint_cells : Disjoint (barCells : Finset (GSem nD τ sig)) copyCells := by
  rw [Finset.disjoint_left]
  intro g h₁ h₂
  obtain ⟨c, -, rfl⟩ := Finset.mem_map.mp h₁
  obtain ⟨x, -, h⟩ := Finset.mem_map.mp h₂
  exact xsem_ne_bar _ _ (congrArg Prod.snd h)

/-- A device's barrier cell is among the cells of the exchange. -/
theorem bar_mem (c : Dev nD) : barCell c ∈ (barCells ∪ copyCells : Finset (GSem nD τ sig)) :=
  Finset.mem_union_left _ (Finset.mem_map_of_mem barEmb (Finset.mem_univ c))
/-- A send cell is among the cells of the exchange. -/
theorem send_mem (k : Fin 3) (c : Dev nD) : sendCell k c ∈ (barCells ∪ copyCells : Finset (GSem nD τ sig)) :=
  Finset.mem_union_right _ (Finset.mem_map_of_mem copyEmb (Finset.mem_univ ((c, k), (0 : Fin 2))))
/-- A receive cell is among the cells of the exchange. -/
theorem recv_mem (k : Fin 3) (c : Dev nD) : recvCell k c ∈ (barCells ∪ copyCells : Finset (GSem nD τ sig)) :=
  Finset.mem_union_right _ (Finset.mem_map_of_mem copyEmb (Finset.mem_univ ((c, k), (1 : Fin 2))))

/-- The launch element: the pipeline library's at its staging cells, the exchange's at its own. -/
def u₀ : UU := (initOf (Pipeline.cells cfgs cellOf_inj) (Pipeline.launchToks cfgs cellOf_inj), launchOf barCells copyCells toks)

/-- A resource given to device 0 until the global step deals it out. -/
def parked (X : sProp 𝕄) (c : Dev nD) : sProp 𝕄 := if c = 0 then X else iprop(emp)
/-- A resource parked at one device is that resource over all of them. -/
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
/-- What the launch hands over, parked at one device. -/
def G : Dev nD → sProp 𝕄 := parked (BI.own (ER (launchOf barCells copyCells toks)))

/-! ## Handing a token to the partner -/

/-- A device and a round, to the partner and the round. -/
def swap : Dev nD × Fin 3 ≃ Dev nD × Fin 3 :=
  ⟨fun x => (pr x.2 x.1, x.2), fun x => (pr x.2 x.1, x.2), fun x => by simp only [pr_pr], fun x => by simp only [pr_pr]⟩

/-- Over all devices and rounds one may as well go to the partner of each. -/
theorem around (Φ : Dev nD × Fin 3 → sProp 𝕄) : bigSep Finset.univ Φ = bigSep Finset.univ (fun x : Dev nD × Fin 3 => Φ (pr x.2 x.1, x.2)) :=
  bigSep_univ_equiv swap Φ

/-- A conjunction over the three rounds, written out. -/
theorem over3 (Φ : Fin 3 → sProp 𝕄) : bigSep Finset.univ Φ = iprop(Φ 0 ∗ Φ 1 ∗ Φ 2) :=
  bigSep_univ_eq_bigSepL [0, 1, 2] (by decide) (by decide) Φ

/-- The three tokens device `x.1` pays with in round `x.2`. -/
def payK (x : Dev nD × Fin 3) : sProp 𝕄 :=
  iprop(dutyTok ER (barCell (pr x.2 x.1)) 0 x.2 ∗ dutyTok ER (sendCell x.2 x.1) 0 0 ∗ dutyTok ER (recvCell x.2 (pr x.2 x.1)) 0 0)

/-- All tokens, dealt to the devices that pay with them. -/
theorem toks_dealt : (bigSep toks fun x => (dutyTok ER x.1 x.2.1 x.2.2 : sProp 𝕄)) = bigSep Finset.univ payK := by
  unfold toks; rw [bigSep_map, bigSep_univ_prod]
  rw [bigSep_congr (Ψ := fun x : Dev nD × Fin 3 => iprop(dutyTok ER (barCell x.1) 0 x.2 ∗ dutyTok ER (sendCell x.2 x.1) 0 0 ∗ dutyTok ER (recvCell x.2 x.1) 0 0))
    fun x _ => by rw [over3]; rfl]
  unfold payK
  rw [bigSep_sep', bigSep_sep', bigSep_sep', bigSep_sep',
    around (fun x : Dev nD × Fin 3 => (dutyTok ER (barCell x.1) 0 x.2 : sProp 𝕄)),
    around (fun x : Dev nD × Fin 3 => (dutyTok ER (recvCell x.2 x.1) 0 0 : sProp 𝕄))]

/-- The rights to open a round's two cells. -/
def canOpen (x : Dev nD × Fin 3) : sProp 𝕄 := iprop(openTok ER (sendCell x.2 x.1) ∗ openTok ER (recvCell x.2 x.1))

/-- The rights to open the copy cells, dealt to the devices. -/
theorem opens_dealt : (bigSep copyCells fun g => (openTok ER g : sProp 𝕄)) = bigSep Finset.univ canOpen := by
  rw [bigSep_map, bigSep_univ_prod]
  exact bigSep_congr fun x _ => BI.bigSep_fin_two (fun i : Fin 2 => (openTok ER ((x.1 : Thread nD τ), xsem x.2 i) : sProp 𝕄))

/-! ## The credit the launch hands out -/

/-- A tally at one cell, read at another. -/
theorem at_cell (g' g : GSem nD τ sig) (n : ℕ) : (tallyAt g' () n : CellTallies nD τ sig Unit) g () = if g = g' then n else 0 := by
  rw [tallyAt_apply]; simp only [and_true]

/-- Barrier cells of different devices differ. -/
theorem bar_inj {c d : Dev nD} : barCell c = barCell d ↔ c = d := ⟨fun h => congrArg (fun g : GSem nD τ sig => g.1.1) h, fun h => h ▸ rfl⟩
/-- Receive semaphores of different rounds differ. -/
theorem recvS_inj : ∀ k j : Fin 3, (SemLoc.dma (recvS k) : SemLoc sig) = .dma (recvS j) → k = j := by decide
/-- Receive cells of different rounds or devices differ. -/
theorem recv_inj {k j : Fin 3} {c d : Dev nD} : recvCell k c = recvCell j d ↔ k = j ∧ c = d :=
  ⟨fun h => ⟨recvS_inj k j (congrArg Prod.snd h), congrArg (fun g : GSem nD τ sig => g.1.1) h⟩, fun h => by rw [h.1, h.2]⟩
/-- A barrier cell is no receive cell. -/
theorem bar_recv {k : Fin 3} {c d : Dev nD} : ¬ barCell c = recvCell k d := fun h => recv_ne_bar k (congrArg Prod.snd h).symm
/-- A receive cell is no barrier cell. -/
theorem recv_bar {k : Fin 3} {c d : Dev nD} : ¬ recvCell k d = barCell c := fun h => recv_ne_bar k (congrArg Prod.snd h)

/-- What device `d` owes the barrier of `c`: a unit if they are partners. -/
theorem owed_bar (d c : Dev nD) : O₀ d (barCell c) () = ((if c = pr 2 d then 1 else 0) + (if c = pr 1 d then 1 else 0)) + if c = pr 0 d then 1 else 0 := by
  unfold O₀ owedR
  simp only [Pi.add_apply, Finsupp.add_apply, at_cell, bar_inj, Pi.zero_apply, Finsupp.zero_apply]
  rw [if_neg bar_recv, if_neg bar_recv, if_neg bar_recv]; simp only [Nat.zero_add]

/-- What device `d` owes receive cell `k` of `c`: a copy if it is the partner of that round. -/
theorem owed_recv (k : Fin 3) (d c : Dev nD) : O₀ d (recvCell k c) () = if c = pr k d then N else 0 := by
  unfold O₀ owedR
  simp only [Pi.add_apply, Finsupp.add_apply, at_cell, Pi.zero_apply, Finsupp.zero_apply]
  rw [if_neg recv_bar, if_neg recv_bar, if_neg recv_bar, if_congr recv_inj rfl rfl, if_congr recv_inj rfl rfl, if_congr recv_inj rfl rfl]
  generalize N = n
  match k with
  | 0 => rw [if_neg (fun h => absurd h.1 (by decide)), if_neg (fun h => absurd h.1 (by decide)), if_congr (and_iff_right rfl) rfl rfl]; omega
  | 1 => rw [if_neg (fun h => absurd h.1 (by decide)), if_congr (and_iff_right rfl) rfl rfl, if_neg (c := (1 : Fin 3) = 0 ∧ _) (fun h => absurd h.1 (by decide))]; omega
  | 2 => rw [if_congr (and_iff_right rfl) rfl rfl, if_neg (c := (2 : Fin 3) = 1 ∧ _) (fun h => absurd h.1 (by decide)),
      if_neg (c := (2 : Fin 3) = 0 ∧ _) (fun h => absurd h.1 (by decide))]; omega

/-- The launch credits each barrier cell with the three signals that its partners owe. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- The launch credits each receive cell with the copy that its partner owes. -/
theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => (owed_recv k d c).trans
    (if_congr (⟨fun h => by rw [h, pr_pr], fun h => by rw [h, pr_pr]⟩ : c = pr k d ↔ d = pr k c) rfl rfl), Finset.sum_ite_eq' Finset.univ (pr k c) fun _ => N,
    if_pos (Finset.mem_univ _)]

/-- A device's credit: three units at its barrier, a copy at each receive cell. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- A device's part of the launch's credits. -/
theorem creds (c : Dev nD) : (Pipeline.launchCred O₀ c : sProp 𝕄) ⊢ credits c := by
  unfold Pipeline.launchCred credits
  refine (bigSep_subset (Finset.subset_univ ({.reg barS, .dma (recvS 0), .dma (recvS 1), .dma (recvS 2)} : Finset (SemLoc sig)))).trans ?_
  rw [bigSep_eq_bigSepL_of_eq [.reg barS, .dma (recvS 0), .dma (recvS 1), .dma (recvS 2)] (by decide) (by decide)]
  rw [← launch_bar, ← launch_recv 0, ← launch_recv 1, ← launch_recv 2]
  exact BI.Entails.refl _

/-! ## Dealing -/

/-- What every device may consult: all the invariants under one map of names; every barrier cell's round 0 is reached. -/
def records (κ : GSem nD τ sig → ℕ) : sProp 𝕄 :=
  iprop((bigSep (barCells ∪ copyCells) fun g => cellInv ER (exRd (PS m)) (κ g) g) ∗ bigSep barCells fun g => reached ER g 0)
instance records_persistent (κ : GSem nD τ sig → ℕ) : BI.Persistent (records m κ) := by unfold records; infer_instance

/-- The record of one cell among all of them. -/
theorem inv_at (κ : GSem nD τ sig → ℕ) {g : GSem nD τ sig} (hg : g ∈ (barCells ∪ copyCells : Finset (GSem nD τ sig))) :
    records m κ ⊢ (cellInv ER (exRd (PS m)) (κ g) g : sProp 𝕄) := by
  unfold records
  iintro ⟨#HI, -⟩
  iapply (show (bigSep (barCells ∪ copyCells) fun g => cellInv ER (exRd (PS m)) (κ g) g) ⊢ (cellInv ER (exRd (PS m)) (κ g) g : sProp 𝕄) from bigSep_elim hg); iexact HI
/-- Every barrier cell is at its first round. -/
theorem reached_at (κ : GSem nD τ sig → ℕ) (c : Dev nD) : records m κ ⊢ (reached ER (barCell c) 0 : sProp 𝕄) := by
  unfold records
  iintro ⟨-, #HR⟩
  iapply (show (bigSep barCells fun g => reached ER g 0) ⊢ (reached ER (barCell c) 0 : sProp 𝕄) from bigSep_elim (Finset.mem_map_of_mem barEmb (Finset.mem_univ c))); iexact HR

/-- The records that a device needs for round k. -/
theorem invK_of (κ : GSem nD τ sig → ℕ) (c : Dev nD) (k : Fin 3) : records m κ ⊢ (invK (PS m) κ c k : sProp 𝕄) := by
  unfold invK
  iintro #H
  isplitr; · iapply (inv_at m κ (send_mem k c)); iexact H
  isplitr; · iapply (inv_at m κ (recv_mem k c)); iexact H
  isplitr; · iapply (inv_at m κ (bar_mem (pr k c))); iexact H
  iapply (inv_at m κ (recv_mem k (pr k c))); iexact H

/-- A device's resources for round k. -/
theorem dealK_of (κ : GSem nD τ sig → ℕ) (c : Dev nD) (k : Fin 3) :
    iprop(records m κ ∗ canOpen (c, k) ∗ payK (c, k) ∗ cred (tallyAt (recvCell k c) () N)) ⊢ (dealK c k : sProp 𝕄) := by
  unfold canOpen payK dealK
  iintro ⟨#H, Ho, Ht, Hc⟩
  isplitl [Ho]; · iexact Ho
  isplitr; · iapply (reached_at m κ (pr k c)); iexact H
  isplitl [Ht]; · iexact Ht
  iexact Hc

/-- What stays with one device. -/
def share (c : Dev nD) : sProp 𝕄 :=
  iprop(atPos ER (barCell c) 0 ∅ 0 ∗ (bigSep Finset.univ fun k => canOpen (c, k)) ∗ (bigSep Finset.univ fun k => payK (c, k)) ∗ credits c)

/-- A device's resources for the whole exchange. -/
theorem Tk_of (κ : GSem nD τ sig → ℕ) (c : Dev nD) : iprop(records m κ ∗ share c) ⊢ (Tk m c : sProp 𝕄) := by
  unfold share credits Tk invs
  rw [over3, over3]
  iintro ⟨#H, Hat, ⟨Ho0, Ho1, Ho2⟩, ⟨Ht0, Ht1, Ht2⟩, Hc, Hc0, Hc1, Hc2⟩
  iexists κ
  isplitr
  · isplitr; · iapply (inv_at m κ (bar_mem c)); iexact H
    isplitr; · iapply (invK_of m κ c 0); iexact H
    isplitr; · iapply (invK_of m κ c 1); iexact H
    iapply (invK_of m κ c 2); iexact H
  isplitl [Hat]; · iexact Hat
  isplitl [Hc]; · iexact Hc
  isplitl [Ho0 Ht0 Hc0]
  · iapply (dealK_of m κ c 0); isplitr; · iexact H
    isplitl [Ho0]; · iexact Ho0
    isplitl [Ht0] <;> iassumption
  isplitl [Ho1 Ht1 Hc1]
  · iapply (dealK_of m κ c 1); isplitr; · iexact H
    isplitl [Ho1]; · iexact Ho1
    isplitl [Ht1] <;> iassumption
  iapply (dealK_of m κ c 2); isplitr; · iexact H
  isplitl [Ho2]; · iexact Ho2
  isplitl [Ht2] <;> iassumption

/-- The only semaphore outside of the call is the barrier. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's holdings the exchange does not touch. -/
def side (c : Dev nD) : sProp 𝕄 := iprop((∃ r, prngReg c r) ∗ ∃ W, owes (c : Thread nD τ) (O₀ c) W)

/-- What a device holds when it enters the program. -/
theorem E_of (κ : GSem nD τ sig → ℕ) (c : Dev nD) : iprop(records m κ ∗ (share c ∗ side c)) ⊢ (E m 0 c : sProp 𝕄) := by
  show _ ⊢ iprop(Tk m c ∗ (∃ r, prngReg c r) ∗ ∃ W, owes (c : Thread nD τ) (O₀ c) W)
  unfold side
  iintro ⟨#H, Hs, Hp, HO⟩
  isplitl [Hs]
  · iapply (Tk_of m κ c); isplitr; · iexact H
    iexact Hs
  isplitl [Hp] <;> iassumption

/-- The global step at launch. -/
theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((credits c ∗ side c) ∗ semVal (barCell c) 0 ∗ G c) : sProp 𝕄) := by
    rw [unscopedSems0_eq]
    unfold side
    iintro ⟨Hus, HO, Hcr, Hp, HG⟩
    ihave Hc := (creds (F := F) c) $$ Hcr
    isplitl [Hc HO Hp]
    · isplitl [Hc]; · iexact Hc
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (show (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ (fun c : Dev nD => credits c) ∗ bigSep Finset.univ (fun c : Dev nD => side c)) ∗ bigSep Finset.univ (fun c : Dev nD => semVal (barCell c) 0) ∗ bigSep Finset.univ G) : sProp 𝕄) from by
    rw [← bigSep_sep', ← bigSep_sep', ← bigSep_sep']; exact bigSep_mono fun c _ => hcore c) $$ H
  icases H with ⟨⟨Hcr, Hsd⟩, Hv, HG⟩
  ihave Hu := (show bigSep Finset.univ (G (F := F)) ⊢ BI.own (ER (launchOf barCells copyCells toks)) from Entails.of_eq (bigSep_parked (F := F) _)) $$ HG
  imod (Rounds.fund_launch ER (exRd (PS m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ side c)) fun c _ => E_of m κ c)
  isplitr
  · unfold records
    isplitr; · iexact Hinv
    iexact Hr
  unfold share
  rw [bigSep_sep', bigSep_sep', bigSep_sep', bigSep_sep']
  isplitr [Hsd]
  · isplitl [Hat]; · iapply hat $$ Hat
    isplitl [Hopen]; · iapply (Entails.of_eq ((opens_dealt (F := F)).trans (bigSep_univ_prod _))); iexact Hopen
    isplitl [Htok]; · iapply (Entails.of_eq ((toks_dealt (F := F)).trans (bigSep_univ_prod _))); iexact Htok
    iexact Hcr
  · iexact Hsd

end Cert.Run

end
-- ==== Proof.Run.lean ====
/-
# The run of the whole program

From any memory with zero counters, every weakly fair execution ends, with each device's result buffer at the value its last host
stretch computes from the region's result array, every argument as launched, and every semaphore counter at zero.
-/
module

public import proofs.«01_k».proof.Proof.Launch
public import Idealize.ShloMosaic.Lib.Quiescent

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ)

/-- The barrier is the only semaphore outside of the call. -/
theorem unscoped_eq : ∀ sm : SemLoc sig, sm.isScoped .tc = false → sm = .reg barS := by decide

set_option backward.isDefEq.respectTransparency.types false in
/-- The run of the whole program: it ends, every semaphore is at zero, and the result is the one computed in `res`. -/
theorem run_main (ρ : Dev nD → PrngReg) :
    θ_run defs (onTc (τ := τ) (main (F := F))) ⟨m, fun _ => 0, ρ⟩ (fun r => (∀ c : Dev nD,
      r.2.mem ((c.tc : Thread nD τ).loc main_v20) = V3 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (R0 m))
    (fun c Q => by
      rewrite [main_chain c, Seg.run_eq_chain,
        show (segs m (outs m) 𝒱₀ L lv (E m) () (pdats m) (R0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_parked]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, hpre m c, hpost m c, ?_⟩)
    (hinit := ?_) (QY := fun c s => (s.mem ((c.tc : Thread nD τ).loc main_v20) = V3 m (outs m) c main_v20
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)) ∧ s.sem (barCell c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c) ∗ semVal (barCell c) 0 ∗ ∃ W, owes (c : Thread nD τ) (0 : CellTallies nD τ sig Unit) W)
      ⊢ iprop((_ ∗ semVal (barCell c) 0) ∗ ∃ W, owes (c : Thread nD τ) (0 : CellTallies nD τ sig Unit) W)
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨h (Proc.devRef .tc main_v20) (Finset.mem_filter.mpr ⟨StableHlo.devRef_mem_tcRefs main_v20, by decide⟩),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c)⟩,
        by simpa using hb⟩
    · iexact HSI

end Cert.Run

end
-- ==== Proof.Frames.lean ====
/-
# The frames

One run, over any float values, gives the frame of the kernel at machine floats and at the extended reals; the reference's run is
generated, and it declares no semaphore.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Run

open Idealize.ShloMosaic Idealize.SL.Sem

/-- The frame at machine floats, over the text the run above is about. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) ∧ r.2.sem = fun _ => 0) :=
  (θ_run Cert.KernelIdeal.defs _ _).mono (fun _ h => ⟨fun c => (h.1 c).2, h.2⟩) (run_main (F := Bits) m ρ)

/-- The two printed body tables are one table: the same body under the only label. -/
theorem defs₀_same : Cert.Kernel.defs₀ (F := Bits) = Cert.KernelIdeal.defs₀ (F := Bits) := by
  have hb : @Cert.Kernel.cc0_body Bits _ _ = @Cert.KernelIdeal.cc0_body Bits _ _ := rfl
  unfold Cert.Kernel.defs₀ Cert.KernelIdeal.defs₀
  congr 1
  funext l a
  match l, a with
  | 0, (t, s) => rfl

/-- Kernel and idealized kernel have the same kernels. -/
theorem defs_same : Cert.Kernel.defs (F := Bits) = Cert.KernelIdeal.defs (F := Bits) :=
  congrArg (Pipeline.defs (Cert.Kernel.pcfgs (F := Bits))) defs₀_same

/-- The kernel at machine floats is the same text, no operation rewritten. -/
theorem frame_kernel : Cert.quiescent_Kernel := fun m ρ _ => by
  rw [defs_same]
  exact frame_bits m ρ

/-- The frame of the idealized kernel. -/
theorem frame_ideal : Cert.quiescent_KernelIdeal :=
  fun m ρ _ => (θ_run Cert.KernelIdeal.defs _ _).mono (fun _ h => ⟨fun c => (h.1 c).2, h.2⟩) (run_main (F := Ideal) m ρ)

/-- The frame of the reference. -/
theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- What the shape relations of the two printed predicates state. -/
theorem preFacts_K : Cert.Pre_finite_in_vocabulary_KernelIdeal.Facts := ⟨by decide, by decide, by decide⟩
/-- The precondition's side conditions, at the reference's types. -/
theorem preFacts_R : Cert.Pre_finite_in_vocabulary_ReferenceIdeal.Facts := ⟨by decide, by decide, by decide⟩

/-- The frame of the idealized kernel, under the precondition. -/
theorem frame_ideal_pre : Cert.quiescent_KernelIdeal_pre_finite_in_vocabulary_KernelIdeal (hPre_finite_in_vocabulary_KernelIdeal := preFacts_K) :=
  fun m ρ _ => (θ_run Cert.KernelIdeal.defs _ _).mono (fun _ h => ⟨fun c => (h.1 c).2, h.2⟩) (run_main (F := Ideal) m ρ)

/-- The frame of the reference, under the precondition. -/
theorem frame_reference_pre : Cert.quiescent_ReferenceIdeal_pre_finite_in_vocabulary_ReferenceIdeal (hPre_finite_in_vocabulary_ReferenceIdeal := preFacts_R) :=
  fun m ρ _ => (θ_run Cert.ReferenceIdeal.defs _ _).mono (fun r h => ⟨fun c => (h c).2, sem_eq_zero_of_no_sems (by decide) r.2⟩)
    (Cert.ReferenceIdeal.Value.run (F := Ideal) m ρ)

end Cert.Run

end
-- ==== Proof.Sums.lean ====
/-
# One block of 512 logits, over the extended reals

At one row: what the kernel adds to the running sum of exponentials and to the running label logit when it goes through 512
columns of logits in four blocks of 128. The row's logits are given as a function of the vocabulary column.
-/
module

public import proofs.«01_k».proof.Proof.Values
public import Idealize.ShloMosaic.Lib.Pointwise

@[expose] public section

noncomputable section

namespace Cert.Val

open Cert.KernelIdeal Cert.KernelIdeal.Gen Cert.Run
open Idealize.ShloMosaic Idealize.ShloMosaic.Pointwise

set_option maxRecDepth 16384

/-- The sum of `n` values of `f`, from `b` on. -/
def seg (f : ℕ → EReal) (b n : ℕ) : EReal := ∑ k : Fin n, f (b + k.val)

/-- A sum over a stretch is cut in two. -/
theorem seg_add (f : ℕ → EReal) (b n p : ℕ) : seg f b (n + p) = seg f b n + seg f (b + n) p := by
  unfold seg
  rw [Fin.sum_univ_add]
  refine congrArg₂ (· + ·) rfl (Finset.sum_congr rfl fun k _ => ?_)
  rw [Fin.val_natAdd, Nat.add_assoc]

/-- A segment of 512 in four of 128. -/
theorem seg_four (f : ℕ → EReal) (b : ℕ) (s : EReal) :
    s + seg f b 128 + seg f (b + 128) 128 + seg f (b + 256) 128 + seg f (b + 384) 128 = s + seg f b 512 := by
  rw [show (512 : ℕ) = 128 + 128 + 128 + 128 from rfl, seg_add, seg_add, seg_add]
  simp only [add_assoc, Nat.reduceAdd]

/-- The exponential of a logit, and a logit where its column is the label `n` and 0 elsewhere. -/
def expo (g : ℕ → EReal) (v : ℕ) : EReal := Ideal.exp (g v)
/-- The function g at n, and zero elsewhere. -/
def pick (g : ℕ → EReal) (n v : ℕ) : EReal := if v = n then g v else 0

/-- Row `t` of a block of logits holds the columns from `b` on of a row of logits `g`. -/
def RowIs (A : FVec Ideal S2048x512 .f32) (t : Fin 2048) (g : ℕ → EReal) (b : ℕ) : Prop := ∀ n : Fin 512, A (ix2 t n) = g (b + n.val)

section Row

variable {A : FVec Ideal S2048x512 .f32} {t : Fin 2048} {g : ℕ → EReal} {b : ℕ}

/-- The first 128 of 512 columns. -/
theorem emb0 (x : Fin 128) : colR0.emb (ix2 t x) = ix2 t (⟨x.val, by omega⟩ : Fin 512) := by
  funext a; fin_cases a <;> exact Fin.ext (by show 0 + 1 * _ = _; simp [ix2])
/-- The second 128 of 512 columns. -/
theorem emb1 (x : Fin 128) : colR1.emb (ix2 t x) = ix2 t (⟨128 + x.val, by omega⟩ : Fin 512) := by
  funext a; fin_cases a <;> exact Fin.ext (by first | (show 0 + 1 * _ = _; simp [ix2]; done) | (show 128 + 1 * _ = _; simp [ix2]))
/-- The third 128 of 512 columns. -/
theorem emb2 (x : Fin 128) : colR2.emb (ix2 t x) = ix2 t (⟨256 + x.val, by omega⟩ : Fin 512) := by
  funext a; fin_cases a <;> exact Fin.ext (by first | (show 0 + 1 * _ = _; simp [ix2]; done) | (show 256 + 1 * _ = _; simp [ix2]))
/-- The last 128 of 512 columns. -/
theorem emb3 (x : Fin 128) : colR3.emb (ix2 t x) = ix2 t (⟨384 + x.val, by omega⟩ : Fin 512) := by
  funext a; fin_cases a <;> exact Fin.ext (by first | (show 0 + 1 * _ = _; simp [ix2]; done) | (show 384 + 1 * _ = _; simp [ix2]))

variable (h : RowIs A t g b) (x : Fin 128)
include h

/-- The first 128 columns of a row. -/
theorem col0_row : col0 A (ix2 t x) = g (b + x.val) := by
  unfold col0; rw [emb0, h]
/-- The second 128 columns of a row. -/
theorem col1_row : col1 A (ix2 t x) = g (b + 128 + x.val) := by
  unfold col1; rw [emb1, h, Nat.add_assoc]
/-- The third 128 columns of a row. -/
theorem col2_row : col2 A (ix2 t x) = g (b + 256 + x.val) := by
  unfold col2; rw [emb2, h, Nat.add_assoc]
/-- The last 128 columns of a row. -/
theorem col3_row : col3 A (ix2 t x) = g (b + 384 + x.val) := by
  unfold col3; rw [emb3, h, Nat.add_assoc]

end Row

/-- The kernel's choice by the column's word: the column `b + o + p + x` against the label. -/
theorem select_word {b : ℕ} (hb : b + 2048 ≤ 2 ^ 32) (o p : ℕ) (hop : o + p + 128 ≤ 2048) (x : Fin 128) (l : BitVec 32) (a : EReal) :
    Scalar.select (IntOp.cmpi CmpIPredicate.eq (IntOp.addi (BitVec.ofNat 32 x.val)
      (Scalar.addi (Scalar.addi (BitVec.ofNat 32 b) (BitVec.ofNat 32 o)) (BitVec.ofNat 32 p))) l) a 0
      = if b + o + p + x.val = l.toNat then a else 0 := by
  have hx := x.isLt
  have hw : (IntOp.addi (BitVec.ofNat 32 x.val) (Scalar.addi (Scalar.addi (BitVec.ofNat 32 b) (BitVec.ofNat 32 o)) (BitVec.ofNat 32 p))).toNat
      = b + o + p + x.val := by
    show (BitVec.ofNat 32 x.val + (BitVec.ofNat 32 b + BitVec.ofNat 32 o + BitVec.ofNat 32 p)).toNat = _
    simp only [BitVec.toNat_add, BitVec.toNat_ofNat]
    omega
  rw [← hw]
  generalize IntOp.addi (BitVec.ofNat 32 x.val) (Scalar.addi (Scalar.addi (BitVec.ofNat 32 b) (BitVec.ofNat 32 o)) (BitVec.ofNat 32 p)) = w
  have he : IntOp.cmpi CmpIPredicate.eq w l = BitVec.ofBool (decide (w.toNat = l.toNat)) := by
    show BitVec.ofBool (w == l) = _
    refine congrArg BitVec.ofBool ?_
    rw [Bool.eq_iff_iff, beq_iff_eq, decide_eq_true_eq, BitVec.toNat_inj]
  rw [he]
  by_cases hc : w.toNat = l.toNat <;> simp [hc, Scalar.select]

/-- What the four blocks of 128 columns pick, the label's word compared with each column's. -/
theorem select_four {g : ℕ → EReal} {b : ℕ} (hb : b + 2048 ≤ 2 ^ 32) (o : ℕ) (ho : o + 512 ≤ 2048) (l : BitVec 32) (s : EReal) :
    s + ∑ x : Fin 128, Scalar.select (IntOp.cmpi CmpIPredicate.eq (IntOp.addi (BitVec.ofNat 32 x.val)
          (Scalar.addi (Scalar.addi (BitVec.ofNat 32 b) (BitVec.ofNat 32 o)) 0#32)) l) (g (b + o + x.val)) 0
      + ∑ x : Fin 128, Scalar.select (IntOp.cmpi CmpIPredicate.eq (IntOp.addi (BitVec.ofNat 32 x.val)
          (Scalar.addi (Scalar.addi (BitVec.ofNat 32 b) (BitVec.ofNat 32 o)) 128#32)) l) (g (b + o + 128 + x.val)) 0
      + ∑ x : Fin 128, Scalar.select (IntOp.cmpi CmpIPredicate.eq (IntOp.addi (BitVec.ofNat 32 x.val)
          (Scalar.addi (Scalar.addi (BitVec.ofNat 32 b) (BitVec.ofNat 32 o)) 256#32)) l) (g (b + o + 256 + x.val)) 0
      + ∑ x : Fin 128, Scalar.select (IntOp.cmpi CmpIPredicate.eq (IntOp.addi (BitVec.ofNat 32 x.val)
          (Scalar.addi (Scalar.addi (BitVec.ofNat 32 b) (BitVec.ofNat 32 o)) 384#32)) l) (g (b + o + 384 + x.val)) 0
      = s + seg (pick g l.toNat) (b + o) 512 := by
  rw [← seg_four]
  exact congrArg₂ (· + ·) (congrArg₂ (· + ·) (congrArg₂ (· + ·) (congrArg₂ (· + ·) rfl
    (Finset.sum_congr rfl fun x _ => select_word hb o 0 (by omega) x l _))
    (Finset.sum_congr rfl fun x _ => select_word hb o 128 (by omega) x l _))
    (Finset.sum_congr rfl fun x _ => select_word hb o 256 (by omega) x l _))
    (Finset.sum_congr rfl fun x _ => select_word hb o 384 (by omega) x l _)

section Row

variable {A : FVec Ideal S2048x512 .f32} {s : FVec Ideal S2048x1 .f32} {lab : Vec Ideal S2048x1 .i32} {t : Fin 2048} {g : ℕ → EReal} {b : ℕ}

/-- The four points' sums of exponentials are one function of the block and the running sum. -/
theorem sum1_seg (h : RowIs A t g b) : sum1 A s (ix2 t 0) = s (ix2 t 0) + seg (expo g) b 512 := by
  rw [← seg_four]
  pointwise [sum1, k0_pay56, k0_pay14, k0_pay11, k0_pay8, k0_pay5, seg, expo, col0_row h, col1_row h, col2_row h, col3_row h]
/-- The second product adds its exponentials. -/
theorem sum2_seg (h : RowIs A t g b) : sum2 A s (ix2 t 0) = s (ix2 t 0) + seg (expo g) b 512 := sum1_seg h
/-- The third product adds its exponentials. -/
theorem sum3_seg (h : RowIs A t g b) : sum3 A s (ix2 t 0) = s (ix2 t 0) + seg (expo g) b 512 := sum1_seg h
/-- The last product adds its exponentials. -/
theorem sum4_seg (h : RowIs A t g b) : sum4 A s (ix2 t 0) = s (ix2 t 0) + seg (expo g) b 512 := by
  rw [← seg_four]
  pointwise [sum4, k0_pay41, k0_pay37, k0_pay40, seg, expo, col0_row h, col1_row h, col2_row h, col3_row h]

variable (hb : b + 2048 ≤ 2 ^ 32)
include hb

/-- The first product adds its logit at the label, if the label is there. -/
theorem lab1_seg (h : RowIs A t g b) :
    lab1 (BitVec.ofNat 32 b) A lab s (ix2 t 0) = s (ix2 t 0) + seg (pick g (lab (ix2 t 0)).toNat) b 512 := by
  refine Eq.trans ?_ (select_four hb 0 (by omega) _ _)
  pointwise [lab1, k0_pay57, k0_pay13, k0_pay12, k0_pay10, k0_pay9, k0_pay7, k0_pay6, Nat.add_zero, col0_row h, col1_row h, col2_row h, col3_row h]
/-- The second product adds its logit at the label. -/
theorem lab2_seg (h : RowIs A t g (b + 512)) :
    lab2 (BitVec.ofNat 32 b) A lab s (ix2 t 0) = s (ix2 t 0) + seg (pick g (lab (ix2 t 0)).toNat) (b + 512) 512 := by
  refine Eq.trans ?_ (select_four hb 512 (by omega) _ _)
  pointwise [lab2, k0_pay59, k0_pay24, k0_pay23, k0_pay21, k0_pay20, k0_pay18, k0_pay17, col0_row h, col1_row h, col2_row h, col3_row h]
/-- The third product adds its logit at the label. -/
theorem lab3_seg (h : RowIs A t g (b + 1024)) :
    lab3 (BitVec.ofNat 32 b) A lab s (ix2 t 0) = s (ix2 t 0) + seg (pick g (lab (ix2 t 0)).toNat) (b + 1024) 512 := by
  refine Eq.trans ?_ (select_four hb 1024 (by omega) _ _)
  pointwise [lab3, k0_pay2, k0_pay35, k0_pay34, k0_pay32, k0_pay31, k0_pay29, k0_pay28, col0_row h, col1_row h, col2_row h, col3_row h]
/-- The last product adds its logit at the label. -/
theorem lab4_seg (h : RowIs A t g (b + 1536)) :
    lab4 (BitVec.ofNat 32 b) A lab s (ix2 t 0) = s (ix2 t 0) + seg (pick g (lab (ix2 t 0)).toNat) (b + 1536) 512 := by
  refine Eq.trans ?_ (select_four hb 1536 (by omega) _ _)
  pointwise [lab4, k0_pay42, k0_pay38, k0_pay39, col0_row h, col1_row h, col2_row h, col3_row h]

end Row

/-- A logit of the four blocks: the row of `x` times the column of the weights. -/
theorem lg_apply (X : FVec Ideal S2048x4096 .bf16) (W : FVec Ideal S4096x512 .bf16) (t : Fin 2048) (n : Fin 512) :
    k0_pay55 (F := Ideal) X W (ix2 t n) = ∑ d : Fin 4096, X (ix2 t d) * W (ix2 d n) := by
  pointwise [k0_pay55]

end Cert.Val

end
-- ==== Proof.Inputs.lean ====
/-
# The input blocks, entry by entry

What the four points read: all of the left operand, 512 columns of the device's quarter of its own block of the right operand, and the
labels.
-/
module

public import proofs.«01_k».proof.Proof.Chain
public import proofs.«01_k».proof.Proof.Sums
public import Idealize.ShloMosaic.Lib.Pipeline.ValueKit
public import Idealize.ShloMosaic.Lib.StableHlo.ReadAt

@[expose] public section

noncomputable section

namespace Cert.Val

open Cert.KernelIdeal Cert.KernelIdeal.Gen Cert.Run
open Idealize.ShloMosaic Idealize.ShloMosaic.TcCoe Idealize.ShloMosaic.Pointwise

set_option maxRecDepth 16384

variable (m : (ℓ : Loc nD τ sig) → Buf (Elt Ideal) ℓ) (c : Dev nD) (t : Fin 2048)

/-- Which quarter of its block a device's columns are. -/
def quarter (c : Dev nD) : ℕ := c.val / 4 % 2 * 2 + c.val / 2 % 2

/-- The first of a device's columns, numbered over the whole vocabulary. -/
def base (c : Dev nD) : ℕ := c.val % 2 * 8192 + quarter c * 2048

/-- The word that the kernel computes for a device's first column is that column's number. -/
theorem baseWord_eq : ∀ c : Dev nD, baseWord c = BitVec.ofNat 32 (base c) := by decide

/-- There are four quarters. -/
theorem quarter_lt (c : Dev nD) : quarter c < 4 := by unfold quarter; omega

/-- The left operand's rounding changes nothing over the extended reals. -/
theorem hostX (d : Fin 4096) : (V1 m c main_v2 : S2048x4096.Idx → EReal) (ix2 t d) = (m ((c : Thread nD τ).loc main_arg0) : S2048x4096.Idx → EReal) (ix2 t d) := by
  show StableHlo.after (hostOps0 c) (V0 m c) main_v2 (ix2 t d) = _
  after_reads_at

/-- The labels as a column. -/
theorem hostL : (V1 m c main_v1 : S2048x1.Idx → BitVec 32) (ix2 t 0) = (m ((c : Thread nD τ).loc main_arg2) : S2048.Idx → BitVec 32) (ix1 t) := by
  show StableHlo.after (hostOps0 c) (V0 m c) main_v1 (ix2 t 0) = _
  after_reads_at

/-- The column at which the host slices, as a word: below zero it would count from the end. -/
def startWord (w : BitVec 32) : BitVec 32 :=
  let q := IntOp.muli (IntOp.addi (IntOp.muli (IntOp.remui .host (IntOp.divui .host w 4#32) 2#32) 2#32)
    (IntOp.remui .host (IntOp.divui .host w 2#32) 2#32)) 2048#32
  Scalar.select (IntOp.cmpi .slt q 0#32) (IntOp.addi q 8192#32) q

/-- The start of the host's slice, read as a number. -/
theorem startWord_toInt : ∀ c : Dev nD, (startWord c.word).toInt = ((quarter c * 2048 : ℕ) : ℤ) := by decide

/-- The slice's row start. -/
theorem start0 (i : S_.Idx) : ((StableHlo.upto (hostOps0 c) (V0 m c) 25 (Proc.tc.devRef main_c_7) : S_.Idx → BitVec 32) i).toInt = 0 := by
  after_reads_at
  rfl
/-- The slice's column start. -/
theorem start1 (i : S_.Idx) : ((StableHlo.upto (hostOps0 c) (V0 m c) 25 (Proc.tc.devRef main_v16) : S_.Idx → BitVec 32) i).toInt = ((quarter c * 2048 : ℕ) : ℤ) := by
  after_reads_at
  exact startWord_toInt c

/-- A slice of 2048 columns from column `k` on, of a block of 8192. -/
theorem slice_apply {α : Type} (x : S4096x8192.Idx → α) (h : S4096x2048.rank = S4096x8192.rank) (st : Fin 2 → ℤ) (d : Fin 4096) (n : Fin 2048) (k : ℕ) (hk : k + 2048 ≤ 8192)
    (h0 : st 0 = 0) (h1 : st 1 = (k : ℤ)) {p0 p1} :
    x (ix2 ⟨Host.clampedStart S4096x8192 S4096x2048 h st 0 + d.val, p0⟩ ⟨Host.clampedStart S4096x8192 S4096x2048 h st 1 + n.val, p1⟩)
      = x (ix2 d ⟨k + n.val, by omega⟩) := by
  have e0 : Host.clampedStart S4096x8192 S4096x2048 h st 0 = 0 := Host.clampedStart_of_le _ _ _ 0 h0 (Nat.le_of_eq rfl)
  have e1 : Host.clampedStart S4096x8192 S4096x2048 h st 1 = k := Host.clampedStart_of_le _ _ _ k h1 hk
  congr 2
  · exact Fin.ext (by show _ + _ = d.val; rw [e0, Nat.zero_add])
  · exact Fin.ext (by show _ + _ = k + n.val; rw [e1])

/-- The device's quarter of its block of the right operand. -/
theorem hostW (d : Fin 4096) (n : Fin 2048) : (V1 m c main_v18 : S4096x2048.Idx → EReal) (ix2 d n)
    = (m ((c : Thread nD τ).loc main_arg1) : S4096x8192.Idx → EReal) (ix2 d ⟨quarter c * 2048 + n.val, by have := quarter_lt c; omega⟩) := by
  show StableHlo.after (hostOps0 c) (V0 m c) main_v18 (ix2 d n) = _
  after_reads_at
  have h0 := start0 m c (Shape.Idx.first h_S_)
  have h1 := start1 m c (Shape.Idx.first h_S_)
  generalize StableHlo.upto (hostOps0 c) (V0 m c) 25 = U at h0 h1 ⊢
  refine slice_apply (m ((c : Thread nD τ).loc main_arg1)) _ _ d n (quarter c * 2048) (by have := quarter_lt c; omega) ?_ ?_
  · exact h0
  · exact h1

/-- There are four grid steps. -/
theorem lt4 (j : Fin cfg0.N) : j.val < 4 := j.isLt.trans_eq N_0

/-- x has one block. -/
theorem index0 (j : Fin cfg0.N) : win0_0.index j = ![0, 0] := rfl
/-- At step j the block of W is number j along the columns. -/
theorem index1 (j : Fin cfg0.N) : win0_1.index j = ![0, j.val] := by
  rcases fin_N0 j with h | h | h | h <;> rw [h] <;> rfl
/-- The labels have one block. -/
theorem index2 (j : Fin cfg0.N) : win0_2.index j = ![0, 0] := rfl

/-- A block of the left operand is all of it. -/
theorem inX_apply (j : Fin cfg0.N) (d : Fin 4096) : inX m c j (ix2 t d) = (m ((c : Thread nD τ).loc main_arg0) : S2048x4096.Idx → EReal) (ix2 t d) := by
  rw [← hostX m c t d]
  unfold inX
  blk_simp
  show (V1 m c main_v2 : S2048x4096.Idx → EReal) _ = _
  congr 1
  funext a
  refine Fin.ext ?_
  blk_simp
  rw [index0]
  match a with
  | 0 => show 0 * 2048 + t.val = t.val; omega
  | 1 => show 0 * 4096 + d.val = d.val; omega

/-- A block of the labels is all of them. -/
theorem inL_apply (j : Fin cfg0.N) : inL m c j (ix2 t 0) = (m ((c : Thread nD τ).loc main_arg2) : S2048.Idx → BitVec 32) (ix1 t) := by
  rw [← hostL m c t]
  unfold inL
  blk_simp
  show (V1 m c main_v1 : S2048x1.Idx → BitVec 32) _ = _
  congr 1
  funext a
  refine Fin.ext ?_
  blk_simp
  rw [index2]
  match a with
  | 0 => show 0 * 2048 + t.val = t.val; omega
  | 1 => rfl

/-- Block `j` of the right operand is columns `512 j` to `512 j + 512` of the device's quarter. -/
theorem inW_apply (j : Fin cfg0.N) (d : Fin 4096) (n : Fin 512) : inW m c j (ix2 d n)
    = (m ((c : Thread nD τ).loc main_arg1) : S4096x8192.Idx → EReal)
        (ix2 d ⟨quarter c * 2048 + (j.val * 512 + n.val), by have := lt4 j; have := quarter_lt c; omega⟩) := by
  refine Eq.trans ?_ (hostW m c d ⟨j.val * 512 + n.val, by have := lt4 j; omega⟩)
  unfold inW
  blk_simp
  show (V1 m c main_v18 : S4096x2048.Idx → EReal) _ = _
  congr 1
  funext a
  refine Fin.ext ?_
  blk_simp
  rw [index1]
  match a with
  | 0 => show 0 * 4096 + d.val = d.val; omega
  | 1 => rfl

end Cert.Val

end
-- ==== Proof.Exchange.lean ====
/-
# The exchange, over the extended reals

Every device ends with the logarithm of the sum of the eight devices' sums of exponentials, less the sum of their label logits:
three rounds of adding a partner's pair add up all eight.
-/
module

public import proofs.«01_k».proof.Proof.Chain
public import proofs.«01_k».proof.Proof.Sums

@[expose] public section

noncomputable section

namespace Cert.Val

open Cert.KernelIdeal Cert.KernelIdeal.Gen Cert.Run
open Idealize.ShloMosaic Idealize.ShloMosaic.Pointwise

set_option maxRecDepth 16384

/-- The eight devices the three rounds reach from device `c`, in the order they are added. -/
def reach (c : Dev nD) : List (Dev nD) :=
  [c, pr 0 c, pr 1 c, pr 0 (pr 1 c), pr 2 c, pr 0 (pr 2 c), pr 1 (pr 2 c), pr 0 (pr 1 (pr 2 c))]

/-- They are all eight devices, each once. -/
theorem reach_perm : ∀ c : Dev nD, (reach c).Perm [0, 1, 2, 3, 4, 5, 6, 7] := by decide

/-- Three rounds of adding a partner's share add up the shares of all eight devices. -/
theorem butterfly (f : Dev nD → EReal) (c : Dev nD) :
    f c + f (pr 0 c) + (f (pr 1 c) + f (pr 0 (pr 1 c))) + (f (pr 2 c) + f (pr 0 (pr 2 c)) + (f (pr 1 (pr 2 c)) + f (pr 0 (pr 1 (pr 2 c)))))
      = f 0 + f 1 + f 2 + f 3 + f 4 + f 5 + f 6 + f 7 := by
  have h := ((reach_perm c).map f).sum_eq
  simp only [reach, List.map_cons, List.map_nil, List.sum_cons, List.sum_nil, add_zero] at h
  simp only [add_assoc] at h ⊢
  exact h

variable (m : (ℓ : Loc nD τ sig) → Buf (Elt Ideal) ℓ) (c : Dev nD) (t : Fin 2048)

/-- What device `c` writes for row `t`. -/
theorem outV_apply : outV m c (ix2 t 0)
    = Ideal.log (smE m 0 (ix2 t 0) + smE m 1 (ix2 t 0) + smE m 2 (ix2 t 0) + smE m 3 (ix2 t 0)
          + smE m 4 (ix2 t 0) + smE m 5 (ix2 t 0) + smE m 6 (ix2 t 0) + smE m 7 (ix2 t 0))
        - (pkE m 0 (ix2 t 0) + pkE m 1 (ix2 t 0) + pkE m 2 (ix2 t 0) + pkE m 3 (ix2 t 0)
          + pkE m 4 (ix2 t 0) + pkE m 5 (ix2 t 0) + pkE m 6 (ix2 t 0) + pkE m 7 (ix2 t 0)) := by
  rw [← butterfly (fun d => smE m d (ix2 t 0)) c, ← butterfly (fun d => pkE m d (ix2 t 0)) c]
  simp only [outV, PS, snd2, snd1, snd0, outOf, sent0, sent1, sent2, colS_mk, colL_mk]
  pointwise [k0_pay43, k0_pay44, k0_pay45, k0_pay46, k0_pay47, k0_pay48, k0_pay49, k0_pay50, k0_pay51, k0_pay52, k0_pay3]

end Cert.Val

end
-- ==== Proof.Result.lean ====
/-
# The result on every device

The launch writes the result block once, at the last point, and the host only reshapes it: the result at row `t` is `outV` at `t`.
-/
module

public import proofs.«01_k».proof.Proof.Run
public import proofs.«01_k».proof.Proof.Exchange
public import Idealize.ShloMosaic.Lib.Pipeline.ValueKit
public import Idealize.ShloMosaic.Lib.StableHlo.ReadAt

@[expose] public section

noncomputable section

namespace Cert.Val

open Cert.KernelIdeal Cert.KernelIdeal.Gen Cert.Run
open Idealize.ShloMosaic Idealize.ShloMosaic.TcCoe Idealize.ShloMosaic.Pointwise

set_option maxRecDepth 16384

variable (m : (ℓ : Loc nD τ sig) → Buf (Elt Ideal) ℓ) (c : Dev nD) (t : Fin 2048)

/-- The launch leaves `outV` in the result array. -/
theorem res_eq : res m c = outV m c := by
  refine (dat0 m c).arrAt_eq_of_after_last 3 t0_3 (by decide +kernel) _ fun j => ?_
  blk_simp
  rfl

/-- The program's result at row `t`. -/
theorem result_apply : (V3 m (outs m) c main_v20 : S2048.Idx → EReal) (ix1 t) = outV m c (ix2 t 0) := by
  show StableHlo.after hostOps1 (V2 m (outs m) c) main_v20 (ix1 t) = _
  after_reads_at
  show (Function.update (V1 m c) (Proc.tc.devRef main_v19) (outs m 2 main_v19 c) (Proc.tc.devRef main_v19) : S2048x1.Idx → EReal) (ix2 t 0) = _
  rw [Function.update_self, outs_v19, res_eq]

end Cert.Val

end
-- ==== Proof.KernelValue.lean ====
/-
# The kernel's value

With every device holding its part of the reference's arrays, row `t` of the result is the logarithm of the sum, over the whole
vocabulary, of the exponentials of the row's logits, less the logit at the label.
-/
module

public import proofs.«01_k».proof.Proof.Inputs
public import proofs.«01_k».proof.Proof.Result

@[expose] public section

noncomputable section

namespace Cert.Val

open Cert.KernelIdeal Cert.KernelIdeal.Gen Cert.Run
open Idealize.ShloMosaic Idealize.ShloMosaic.TcCoe Idealize.ShloMosaic.Pointwise

set_option maxRecDepth 16384

/-- The whole right operand's shape. -/
abbrev SW : Shape := ⟨2, ![4096, 16384]⟩

/-- The logit of row `t` at column `v` of the vocabulary, `0` beyond it. -/
def logit (X : S2048x4096.Idx → EReal) (W : SW.Idx → EReal) (t : Fin 2048) (v : ℕ) : EReal :=
  ∑ d : Fin 4096, X (ix2 t d) * (if h : v < 16384 then W (ix2 d ⟨v, h⟩) else 0)

/-- Every device holds the left operand, the labels, and its half of the right operand's columns. -/
structure Holds (m : (ℓ : Loc nD τ sig) → Buf (Elt Ideal) ℓ) (X : S2048x4096.Idx → EReal) (W : SW.Idx → EReal) (L : S2048.Idx → BitVec 32) : Prop where
  left : ∀ c : Dev nD, (m ((c : Thread nD τ).loc main_arg0) : S2048x4096.Idx → EReal) = X
  right : ∀ c : Dev nD, (m ((c : Thread nD τ).loc main_arg1) : S4096x8192.Idx → EReal)
    = Layout.blockN ⟨2, ![4096, 8192]⟩ ⟨2, ![4096, 16384]⟩ (Layout.meshBlock [2, 2, 2] ![[], [2]] c) W
  labels : ∀ c : Dev nD, (m ((c : Thread nD τ).loc main_arg2) : S2048.Idx → BitVec 32) = L

/-- Device `c`'s half of the columns, entry by entry. -/
theorem half_apply (W : SW.Idx → EReal) (c : Dev nD) (d : Fin 4096) (n : Fin 8192) :
    (Layout.blockN ⟨2, ![4096, 8192]⟩ ⟨2, ![4096, 16384]⟩ (Layout.meshBlock [2, 2, 2] ![[], [2]] c) W : S4096x8192.Idx → EReal) (ix2 d n)
      = W (ix2 d ⟨c.val % 2 * 8192 + n.val, by omega⟩) := by
  rw [Layout.blockN_apply]
  congr 1
  funext a
  refine Fin.ext ?_
  rw [Layout.TilesN.idx_val, Layout.meshBlock_val]
  match a with
  | 0 => show 0 * 4096 + d.val = d.val; omega
  | 1 =>
    show (c.val / 1 % 2 * 1 + 0) * 8192 + n.val = c.val % 2 * 8192 + n.val
    omega

variable {m : (ℓ : Loc nD τ sig) → Buf (Elt Ideal) ℓ} {X : S2048x4096.Idx → EReal} {W : SW.Idx → EReal} {L : S2048.Idx → BitVec 32}
variable (H : Holds m X W L) (c : Dev nD) (t : Fin 2048)

/-- A device's 2048 columns lie within the vocabulary. -/
theorem base_le : base c + 2048 ≤ 16384 := by have := quarter_lt c; unfold base; omega

include H

/-- A point's block of logits: 512 columns of the row, from the device's first column on. -/
theorem logits_row (j : Fin cfg0.N) : RowIs (k0_pay55 (inX m c j) (inW m c j)) t (logit X W t) (base c + 512 * j.val) := by
  intro n
  rw [lg_apply]
  unfold logit
  refine Finset.sum_congr rfl fun d _ => ?_
  have hj := lt4 j
  have hb := base_le c
  have hq := quarter_lt c
  have e0 : inX m c j (ix2 t d) = X (ix2 t d) := by rw [inX_apply, H.left]
  have e1 : inW m c j (ix2 d n) = W (ix2 d ⟨base c + 512 * j.val + n.val, by omega⟩) := by
    rw [inW_apply, H.right, half_apply]
    refine congrArg (fun k => W (ix2 d k)) (Fin.ext ?_)
    show c.val % 2 * 8192 + (quarter c * 2048 + (j.val * 512 + n.val)) = base c + 512 * j.val + n.val
    unfold base
    omega
  rw [e0, e1, dif_pos (show base c + 512 * j.val + n.val < 16384 by omega)]

/-- Row t of the first product: the logits of the device's first 512 columns. -/
theorem lg0_row : RowIs (lg0 m c) t (logit X W t) (base c) := fun n => by
  have h := logits_row H c t t0_0 n
  rw [show base c + 512 * (t0_0 : Fin cfg0.N).val = base c from Nat.add_zero (base c)] at h
  exact h
/-- Row t of the second product: the next 512 columns. -/
theorem lg1_row : RowIs (lg1 m c) t (logit X W t) (base c + 512) := logits_row H c t t0_1
/-- Row t of the third product: the next 512 columns. -/
theorem lg2_row : RowIs (lg2 m c) t (logit X W t) (base c + 1024) := logits_row H c t t0_2
/-- Row t of the last product: the last 512 columns. -/
theorem lg3_row : RowIs (lg3 m c) t (logit X W t) (base c + 1536) := logits_row H c t t0_3

omit H in
/-- Four runs of 512 columns make 2048, from zero. -/
theorem seg_2048 (f : ℕ → EReal) (b : ℕ) (z : EReal) (hz : z = 0) :
    z + seg f b 512 + seg f (b + 512) 512 + seg f (b + 1024) 512 + seg f (b + 1536) 512 = seg f b 2048 := by
  rw [hz, zero_add, show (2048 : ℕ) = 512 + 512 + 512 + 512 from rfl, seg_add, seg_add, seg_add]

/-- The device's sum of exponentials. -/
theorem smE_apply : smE m c (ix2 t 0) = seg (expo (logit X W t)) (base c) 2048 := by
  unfold smE sm2 sm1
  rw [sum4_seg (lg3_row H c t), sum3_seg (lg2_row H c t), sum2_seg (lg1_row H c t), sum1_seg (lg0_row H c t)]
  exact seg_2048 _ _ _ (by pointwise [k0_pay53])

/-- The device's share of the label's logit. -/
theorem pkE_apply : pkE m c (ix2 t 0) = seg (pick (logit X W t) (L (ix1 t)).toNat) (base c) 2048 := by
  have hb : base c + 2048 ≤ 2 ^ 32 := by have := base_le c; omega
  have hL : ∀ j, inL m c j (ix2 t 0) = L (ix1 t) := fun j => by rw [inL_apply, H.labels]
  unfold pkE pk2 pk1
  rw [baseWord_eq, lab4_seg hb (lg3_row H c t), lab3_seg hb (lg2_row H c t), lab2_seg hb (lg1_row H c t), lab1_seg hb (lg0_row H c t), hL, hL, hL]
  exact seg_2048 _ _ _ (by pointwise [k0_pay54])

omit H in
/-- The eight devices' columns are the whole vocabulary. -/
theorem seg_vocab (f : ℕ → EReal) :
    seg f (base 0) 2048 + seg f (base 1) 2048 + seg f (base 2) 2048 + seg f (base 3) 2048 + seg f (base 4) 2048
      + seg f (base 5) 2048 + seg f (base 6) 2048 + seg f (base 7) 2048 = seg f 0 16384 := by
  rw [show base 0 = 0 from rfl, show base 1 = 8192 from rfl, show base 2 = 2048 from rfl, show base 3 = 10240 from rfl, show base 4 = 4096 from rfl,
    show base 5 = 12288 from rfl, show base 6 = 6144 from rfl, show base 7 = 14336 from rfl,
    show (16384 : ℕ) = 2048 + 2048 + 2048 + 2048 + 2048 + 2048 + 2048 + 2048 from rfl, seg_add, seg_add, seg_add, seg_add, seg_add, seg_add, seg_add]
  simp only [Nat.zero_add, Nat.reduceAdd]
  ac_rfl

/-- The kernel's value at row `t`. -/
theorem kernel_apply : (V3 m (outs m) c main_v20 : S2048.Idx → EReal) (ix1 t)
    = Ideal.log (seg (expo (logit X W t)) 0 16384) - seg (pick (logit X W t) (L (ix1 t)).toNat) 0 16384 := by
  rw [result_apply, outV_apply]
  simp only [smE_apply H, pkE_apply H]
  rw [seg_vocab, seg_vocab]

end Cert.Val

end
-- ==== Proof.LogSum.lean ====
/-
# The logarithm of a sum of exponentials

Taking the largest entry out before the exponentials, and adding it back after the logarithm, changes nothing where the entries are
real numbers.
-/
module

public import Idealize.ShloMosaic.Lib.Pointwise
public import Idealize.ShloMosaic.PureOps

@[expose] public section

noncomputable section

namespace Cert.Val

open Idealize.ShloMosaic

/-- The real numbers among the extended reals. -/
def IsReal (x : EReal) : Prop := ∃ r : ℝ, x = (r : EReal)

/-- A sum of two reals is real. -/
theorem IsReal.add {x y : EReal} : IsReal x → IsReal y → IsReal (x + y) := fun ⟨a, ha⟩ ⟨b, hb⟩ => ⟨a + b, by rw [ha, hb, EReal.coe_add]⟩
/-- A product of two reals is real. -/
theorem IsReal.mul {x y : EReal} : IsReal x → IsReal y → IsReal (x * y) := fun ⟨a, ha⟩ ⟨b, hb⟩ => ⟨a * b, by rw [ha, hb, EReal.coe_mul]⟩
/-- A finite sum of reals is real. -/
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- A sum of reals is the real sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The largest of finitely many reals, at least one, is real. -/
theorem isReal_max {n : ℕ} (hn : 0 < n) (l : Fin n → ℝ) : IsReal (Finset.univ.fold max ⊥ fun k => (l k : EReal)) := by
  have ht : Finset.univ.fold max ⊥ (fun k => (l k : EReal)) < ⊤ :=
    (Finset.fold_max_lt ⊤).2 ⟨bot_lt_top, fun k _ => EReal.coe_lt_top (l k)⟩
  have hb : ⊥ < Finset.univ.fold max ⊥ (fun k => (l k : EReal)) :=
    (Finset.lt_fold_max ⊥).2 (Or.inr ⟨⟨0, hn⟩, Finset.mem_univ _, EReal.bot_lt_coe _⟩)
  exact ⟨_, (EReal.coe_toReal ht.ne hb.ne').symm⟩

/-- The exponential of a real is the real exponential. -/
theorem exp_coe (r : ℝ) : Ideal.exp (r : EReal) = ((Real.exp r : ℝ) : EReal) := rfl
/-- The logarithm of a positive real is the real logarithm. -/
theorem log_coe (r : ℝ) (h : 0 < r) : Ideal.log (r : EReal) = ((Real.log r : ℝ) : EReal) := if_neg (not_le.2 h)

/-- Any real number may be taken out. -/
theorem log_shift {n : ℕ} (hn : 0 < n) (l : Fin n → ℝ) (r : ℝ) :
    (r : EReal) + Ideal.log (∑ k, Ideal.exp ((l k : EReal) - (r : EReal))) = Ideal.log (∑ k, Ideal.exp (l k : EReal)) := by
  have hp : 0 < ∑ k, Real.exp (l k) := Finset.sum_pos (fun k _ => Real.exp_pos _) ⟨⟨0, hn⟩, Finset.mem_univ _⟩
  have hq : ∑ k, Real.exp (l k - r) = Real.exp (-r) * ∑ k, Real.exp (l k) := by
    rw [Finset.mul_sum]
    exact Finset.sum_congr rfl fun k _ => by rw [← Real.exp_add]; congr 1; ring
  simp only [← EReal.coe_sub, exp_coe, ← coe_sum]
  rw [hq, log_coe _ hp, log_coe _ (mul_pos (Real.exp_pos _) hp), ← EReal.coe_add, Real.log_mul (Real.exp_pos _).ne' hp.ne', Real.log_exp]
  congr 1
  ring

/-- So the largest entry may. -/
theorem log_max {n : ℕ} (hn : 0 < n) (l : Fin n → EReal) (h : ∀ k, IsReal (l k)) :
    Finset.univ.fold max ⊥ l + Ideal.log (∑ k, Ideal.exp (l k - Finset.univ.fold max ⊥ l)) = Ideal.log (∑ k, Ideal.exp (l k)) := by
  choose f hf using h
  obtain rfl : l = fun k => (f k : EReal) := funext hf
  obtain ⟨r, hr⟩ := isReal_max hn f
  rw [hr]
  exact log_shift hn f r

end Cert.Val

end
-- ==== Proof.RefValue.lean ====
/-
# The reference, entry by entry

Row `t` of the reference: the row's largest logit, plus the logarithm of the sum of the exponentials of the logits less it, less the logit
that the label picks.
-/
module

public import proofs.«01_k».proof.Proof.Gen.ReferenceIdeal.Run
public import proofs.«01_k».proof.Proof.LogSum
public import Idealize.ShloMosaic.Lib.Pointwise
public import Idealize.ShloMosaic.Lib.ValueIdxCore
public import Idealize.ShloMosaic.Lib.DynamicIndex

@[expose] public section

noncomputable section

namespace Cert.Val.Ref

open Cert.ReferenceIdeal Cert.ReferenceIdeal.Gen
open Idealize.ShloMosaic Idealize.ShloMosaic.Pointwise

set_option maxRecDepth 16384

/-- The start word for axis `k` of entry `t` is in row `t`, column `k`. -/
theorem start_apply (idx : IVec S2048x2 32) (t : Fin 2048) (k : Fin 2) :
    GatherDims.start gather_S2048x16384_S2048x2_S2048_n_01_n_n_01_1_11 (ix1 t) idx k = min (idx (ix2 t k)).toInt.toNat (S2048x16384.size k - 1) := by
  have hk : k ∈ GatherDims.startIndexMap gather_S2048x16384_S2048x2_S2048_n_01_n_n_01_1_11 := by fin_cases k <;> decide
  unfold GatherDims.start
  rw [dif_pos hk]
  have hsi : GatherDims.siIdx gather_S2048x16384_S2048x2_S2048_n_01_n_n_01_1_11 (ix1 t) ⟨List.idxOf k (GatherDims.startIndexMap gather_S2048x16384_S2048x2_S2048_n_01_n_n_01_1_11), List.idxOf_lt_length_iff.2 hk⟩ = ix2 t k := by
    funext b; refine Fin.ext ?_
    fin_cases k <;> (match b with | ⟨0, _⟩ => rfl | ⟨1, _⟩ => rfl)
  rw [hsi]
  fin_cases k <;> rfl

/-- Picking one entry of each row by a column of row words and a column of column words. -/
theorem gather_apply {α : Type} (x : S2048x16384.Idx → α) (idx : IVec S2048x2 32) (t : Fin 2048) (v : Fin 16384)
    (h0 : (idx (ix2 t 0)).toInt.toNat = t.val) (h1 : (idx (ix2 t 1)).toInt.toNat = v.val) :
    Host.gather gather_S2048x16384_S2048x2_S2048_n_01_n_n_01_1_11 x idx (ix1 t) = x (ix2 t v) := by
  unfold Host.gather
  congr 1
  funext a
  refine Fin.ext ?_
  show GatherDims.start gather_S2048x16384_S2048x2_S2048_n_01_n_n_01_1_11 (ix1 t) idx a + GatherDims.batchCoord gather_S2048x16384_S2048x2_S2048_n_01_n_n_01_1_11 (ix1 t) a + GatherDims.offCoord gather_S2048x16384_S2048x2_S2048_n_01_n_n_01_1_11 (ix1 t) a = _
  rw [GatherDims.batchCoord_eq_zero _ _ _ List.not_mem_nil,
    GatherDims.offCoord_eq_zero _ _ _ (fun h => ((GatherDims.mem_sKept _ _).mp h).1 (by fin_cases a <;> decide))]
  show GatherDims.start gather_S2048x16384_S2048x2_S2048_n_01_n_n_01_1_11 (ix1 t) idx a = _
  match a with
  | 0 => rw [start_apply, h0]; exact Nat.min_eq_left (by show t.val ≤ 2048 - 1; omega)
  | 1 => rw [start_apply, h1]; exact Nat.min_eq_left (by show v.val ≤ 16384 - 1; omega)

variable (X : FVec Ideal S2048x4096 .f32) (W : FVec Ideal S4096x16384 .f32) (L : IVec S2048 32)

/-- The reference's logits. -/
def dots : FVec Ideal S2048x16384 .f32 := Host.dotGeneral dot_S2048x4096_S4096x16384_S2048x16384_1_0_0_1_n_n none X W

/-- An entry of the reference's product. -/
theorem dots_apply (t : Fin 2048) (v : Fin 16384) : dots X W (ix2 t v) = ∑ d : Fin 4096, X (ix2 t d) * W (ix2 d v) := by
  pointwise [dots]

/-- The largest logit of each row, as a column. -/
def tops (A : FVec Ideal S2048x16384 .f32) : FVec Ideal S2048x1 .f32 :=
  broadcastInDim S2048x1 ![0] bcast_S2048_S2048x1_0
    (Host.reduce FloatOps.maximumf A (constant S_ .f32 0xFF800000#32) reducesTo_S2048x16384_S2048_d1 h_S_)

/-- The reference's row maximum. -/
theorem tops_apply (A : FVec Ideal S2048x16384 .f32) (t : Fin 2048) : tops A (ix2 t 0) = Finset.univ.fold max ⊥ fun v : Fin 16384 => A (ix2 t v) := by
  pointwise [tops]
  rw [show Ideal.ofBits FTy.f32 0xFF800000#32 = (⊥ : EReal) from by simp [Ideal.ofBits, Ideal.ieee]]

/-- A column plus the logarithm of the sum of the exponentials of the logits less that column. -/
def lse (A : FVec Ideal S2048x16384 .f32) (T : FVec Ideal S2048x1 .f32) : FVec Ideal S2048 .f32 :=
  shapeCast _ (addf T (Host.log (broadcastInDim S2048x1 ![0] bcast_S2048_S2048x1_0 (Host.reduceAdd (Host.exp (subf A
    (broadcastInDim S2048x16384 ![0, 1] bcast_S2048x1_S2048x16384_0_1 T))) (constant S_ .f32 0x00000000#32)
      reducesTo_S2048x16384_S2048_d1 h_S_)))) shapeCasts_S2048x1_S2048

/-- The reference's shifted log-sum-exp of a row. -/
theorem lse_apply (A : FVec Ideal S2048x16384 .f32) (T : FVec Ideal S2048x1 .f32) (t : Fin 2048) :
    lse A T (ix1 t) = T (ix2 t 0) + Ideal.log (∑ v : Fin 16384, Ideal.exp (A (ix2 t v) - T (ix2 t 0))) := by
  pointwise [lse]

/-- The words the reference picks by: row numbers and labels, negative ones counted from the end. -/
def words : IVec S2048x2 32 :=
  concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt L (broadcastInDim S2048 ![] bcast_S_S2048 (constantI S_ 32 0#32))) (addi L (broadcastInDim S2048 ![] bcast_S_S2048 (constantI S_ 32 16384#32))) L))⟩] concatenates_S2048x1_S2048x1_S2048x2_d1

/-- A word that is not negative is not counted from the end. -/
theorem wrap_nonneg (w d : BitVec 32) (h : 0 ≤ w.toInt) : Scalar.select (IntOp.cmpi CmpIPredicate.slt w 0#32) (IntOp.addi w d) w = w := by
  have hs : w.slt 0#32 = false := by
    simp only [BitVec.slt, BitVec.toInt_zero, decide_eq_false_iff_not, Int.not_lt]
    exact h
  show (if BitVec.ofBool (w.slt 0#32) = 1 then _ else _) = _
  rw [hs]
  rfl

/-- The first index of the gather is the token. -/
theorem words_row (t : Fin 2048) : (words L (ix2 t 0)).toInt.toNat = t.val := by
  have h : (BitVec.ofNat 32 t.val).toInt = t.val := toInt_ofNat_of_lt (by omega)
  pointwise [words]
  rw [wrap_nonneg _ _ (by rw [h]; omega), h]
  rfl

/-- The second index of the gather is the label, if that is not negative. -/
theorem words_col (t : Fin 2048) (h0 : 0 ≤ (L (ix1 t)).toInt) : (words L (ix2 t 1)).toInt.toNat = (L (ix1 t)).toInt.toNat := by
  pointwise [words]
  rw [wrap_nonneg _ _ h0]

/-- The reference's result. -/
def out : FVec Ideal S2048 .f32 := subf (lse (dots X W) (tops (dots X W))) (Host.gather gather_S2048x16384_S2048x2_S2048_n_01_n_n_01_1_11 (dots X W) (words L))

/-- A difference of vectors, entry by entry. -/
theorem sub_apply (a b : FVec Ideal S2048 .f32) (j : S2048.Idx) : subf a b j = a j - b j := rfl

/-- Where the logits are real and the label is a column: the logarithm of the sum of exponentials, less the label's logit. -/
theorem out_apply (t : Fin 2048) (n : Fin 16384) (h0 : 0 ≤ (L (ix1 t)).toInt) (hn : (L (ix1 t)).toInt.toNat = n.val)
    (hr : ∀ v : Fin 16384, IsReal (∑ d : Fin 4096, X (ix2 t d) * W (ix2 d v))) :
    out X W L (ix1 t) = Ideal.log (∑ v : Fin 16384, Ideal.exp (∑ d : Fin 4096, X (ix2 t d) * W (ix2 d v))) - ∑ d : Fin 4096, X (ix2 t d) * W (ix2 d n) := by
  have e := log_max (n := 16384) (by omega) (fun v => dots X W (ix2 t v)) (fun v => by rw [dots_apply]; exact hr v)
  beta_reduce at e
  have h1 : lse (dots X W) (tops (dots X W)) (ix1 t) = Ideal.log (∑ v : Fin 16384, Ideal.exp (dots X W (ix2 t v))) := by
    rw [lse_apply, tops_apply, e]
  have h2 : Host.gather gather_S2048x16384_S2048x2_S2048_n_01_n_n_01_1_11 (dots X W) (words L) (ix1 t) = dots X W (ix2 t n) :=
    gather_apply _ _ t n (words_row L t) ((words_col L t h0).trans hn)
  unfold out
  rw [sub_apply, h1, h2]
  simp only [dots_apply]

/-- Every run of the reference ends with that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.Val.Ref

end
-- ==== Proof.Algebraic.lean ====
/-
# The two programs agree

From finite operands and labels within the vocabulary, every device's result is the reference's.
-/
module

public import proofs.«01_k».proof.Proof.KernelValue
public import proofs.«01_k».proof.Proof.RefValue
public import proofs.«01_k».proof.Proof.Frames
public import Idealize.ShloMosaic.Lib.Tactic.WordOmega

@[expose] public section

noncomputable section

namespace Cert.Val

open Idealize.ShloMosaic Idealize.ShloMosaic.TcCoe Idealize.ShloMosaic.Pointwise

set_option maxRecDepth 16384

/-! ## What the precondition says -/

/-- A number less than infinity in size is real. -/
theorem isReal_of_bit (x : EReal) (h : BitVec.ofBool (decide (max x (-x) < Ideal.ofBits .f32 0x7F800000#32)) = 1#1) : IsReal x := by
  have htop : Ideal.ofBits .f32 0x7F800000#32 = ⊤ := by simp [Ideal.ofBits, Ideal.ieee]
  rw [htop] at h
  have hlt : max x (-x) < ⊤ := by
    by_contra hn
    rw [decide_eq_false hn] at h
    exact absurd h (by decide)
  obtain ⟨h1, h2⟩ := max_lt_iff.1 hlt
  have hb : x ≠ ⊥ := fun hx => h2.ne (by rw [hx]; rfl)
  exact ⟨x.toReal, (EReal.coe_toReal h1.ne hb).symm⟩

section Pre

variable [Cert.Pre_finite_in_vocabulary_KernelIdeal.Facts]
variable (X : FVec Ideal Cert.KernelIdeal.S2048x4096 .f32) (B : FVec Ideal Cert.KernelIdeal.S4096x8192 .f32) (L : IVec Cert.KernelIdeal.S2048 32)

/-- The left operand is finite. -/
theorem pre_left (h : (Cert.Pre_finite_in_vocabulary_KernelIdeal.fn (F := Ideal) X B L).1 = fun _ => 1#1) (t : Fin 2048) (d : Fin 4096) : IsReal (X (ix2 t d)) := by
  have e := congrFun h (ix2 t d)
  revert e
  pointwise [Cert.Pre_finite_in_vocabulary_KernelIdeal.fn]
  exact isReal_of_bit _
/-- The device's half of the right operand is finite. -/
theorem pre_right (h : (Cert.Pre_finite_in_vocabulary_KernelIdeal.fn (F := Ideal) X B L).2.1 = fun _ => 1#1) (d : Fin 4096) (n : Fin 8192) : IsReal (B (ix2 d n)) := by
  have e := congrFun h (ix2 d n)
  revert e
  pointwise [Cert.Pre_finite_in_vocabulary_KernelIdeal.fn]
  exact isReal_of_bit _
/-- The labels are in the vocabulary. -/
theorem pre_labels (h : (Cert.Pre_finite_in_vocabulary_KernelIdeal.fn (F := Ideal) X B L).2.2 = fun _ => 1#1) (t : Fin 2048) :
    0 ≤ (L (ix1 t)).toInt ∧ (L (ix1 t)).toNat < 16384 := by
  have e := congrFun h (ix1 t)
  revert e
  pointwise [Cert.Pre_finite_in_vocabulary_KernelIdeal.fn]
  intro e
  word_omega

end Pre

/-! ## The two values -/

section Values

open Cert.KernelIdeal

variable (X : S2048x4096.Idx → EReal) (W : SW.Idx → EReal) (t : Fin 2048)

/-- A logit of the whole product at a column, as a sum over the 4096 inner entries. -/
theorem logit_apply (v : Fin 16384) : logit X W t v.val = ∑ d : Fin 4096, X (ix2 t d) * W (ix2 d v) := by
  unfold logit
  exact Finset.sum_congr rfl fun d _ => by rw [dif_pos v.isLt]

/-- The sum of exponentials over all columns counted by numbers is the sum over the 16384 columns. -/
theorem seg_expo : seg (expo (logit X W t)) 0 16384 = ∑ v : Fin 16384, Ideal.exp (∑ d : Fin 4096, X (ix2 t d) * W (ix2 d v)) := by
  unfold seg expo
  exact Finset.sum_congr rfl fun v _ => by rw [Nat.zero_add, logit_apply]

/-- The masked sum over all columns is the logit at the label. -/
theorem seg_pick (n : Fin 16384) : seg (pick (logit X W t) n.val) 0 16384 = ∑ d : Fin 4096, X (ix2 t d) * W (ix2 d n) := by
  unfold seg
  rw [Finset.sum_eq_single n]
  · unfold pick
    rw [Nat.zero_add, if_pos rfl, logit_apply]
  · intro v _ hv
    unfold pick
    rw [Nat.zero_add, if_neg fun h => hv (Fin.ext h)]
  · exact fun h => absurd (Finset.mem_univ n) h

end Values

/-- Every column of the right operand is in some device's half. -/
theorem right_real (W : SW.Idx → EReal)
    (h : ∀ (c : Dev Cert.KernelIdeal.nD) (d : Fin 4096) (n : Fin 8192),
      IsReal ((Layout.blockN ⟨2, ![4096, 8192]⟩ ⟨2, ![4096, 16384]⟩ (Layout.meshBlock [2, 2, 2] ![[], [2]] c) W : Cert.KernelIdeal.S4096x8192.Idx → EReal) (ix2 d n)))
    (d : Fin 4096) (v : Fin 16384) : IsReal (W (ix2 d v)) := by
  have e := h ⟨v.val / 8192, by show v.val / 8192 < 8; omega⟩ d ⟨v.val % 8192, by omega⟩
  rw [half_apply] at e
  have hv : (⟨v.val / 8192 % 2 * 8192 + v.val % 8192, by omega⟩ : Fin 16384) = v := Fin.ext (by show v.val / 8192 % 2 * 8192 + v.val % 8192 = v.val; omega)
  exact hv ▸ e

/-- The claim: both programs run, and every device's result is the reference's. -/
theorem algebraic :
    letI := Cert.KernelIdeal.Gen.facts; letI := Cert.ReferenceIdeal.Gen.facts; letI := Cert.Run.preFacts_K
    Cert.algebraic_KernelIdeal_ReferenceIdeal_pre_finite_in_vocabulary_KernelIdeal := by
  intro m g m' g' hpre hin
  haveI := Cert.Run.preFacts_K
  let X : Cert.KernelIdeal.S2048x4096.Idx → EReal := m' (((0 : Dev Cert.ReferenceIdeal.nD).tc : Thread Cert.ReferenceIdeal.nD Cert.ReferenceIdeal.τ).loc Cert.ReferenceIdeal.main_arg0)
  let W : SW.Idx → EReal := m' (((0 : Dev Cert.ReferenceIdeal.nD).tc : Thread Cert.ReferenceIdeal.nD Cert.ReferenceIdeal.τ).loc Cert.ReferenceIdeal.main_arg1)
  let L : Cert.KernelIdeal.S2048.Idx → BitVec 32 := m' (((0 : Dev Cert.ReferenceIdeal.nD).tc : Thread Cert.ReferenceIdeal.nD Cert.ReferenceIdeal.τ).loc Cert.ReferenceIdeal.main_arg2)
  have H : Holds m X W L := ⟨fun c => (hin c).1, fun c => (hin c).2.1, fun c => (hin c).2.2⟩
  have hX : ∀ t d, IsReal (X (ix2 t d)) := fun t d => by
    have e := pre_left _ _ _ (hpre 0).1 t d
    rw [(hin 0).1] at e
    exact e
  have hW : ∀ d v, IsReal (W (ix2 d v)) := right_real W fun c d n => by
    have e := pre_right _ _ _ (hpre c).2.1 d n
    rw [(hin c).2.1] at e
    exact e
  have hL : ∀ t, 0 ≤ (L (ix1 t)).toInt ∧ (L (ix1 t)).toNat < 16384 := fun t => by
    have e := pre_labels _ _ _ (hpre 0).2.2 t
    rw [(hin 0).2.2] at e
    exact e
  have value : ∀ c, Cert.KernelIdeal.Gen.V3 m (Cert.Run.outs m) c Cert.KernelIdeal.main_v20 = Ref.out X W L := fun c => by
    refine funext fun j => ?_
    obtain ⟨t, rfl⟩ : ∃ t : Fin 2048, j = ix1 t := ⟨j 0, by idx_vars j⟩
    have hn : (L (ix1 t)).toInt.toNat = (L (ix1 t)).toNat := by
      have := (hL t).1
      rw [BitVec.toInt_eq_toNat_cond] at this ⊢
      split at this <;> omega
    refine (kernel_apply H c t).trans ?_
    rw [Ref.out_apply X W L t ⟨(L (ix1 t)).toNat, (hL t).2⟩ (hL t).1 hn fun v => IsReal.sum _ _ fun d => (hX t d).mul (hW d v)]
    rw [seg_expo, seg_pick X W t ⟨(L (ix1 t)).toNat, (hL t).2⟩]
  refine ⟨Ref.out X W L, ?_, ?_⟩
  · refine (θ_run _ _ _).mono (fun r h c => ?_) (Cert.Run.run_main m g)
    exact ⟨((h.1 c).1).trans (value c), (h.1 c).2⟩
  · exact (θ_run _ _ _).mono (fun r h => h 0) (Ref.run_out m' g')

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: the frames of the kernel, of its idealization and of the reference, the step from the kernel to its
idealization, and the equality of the idealized kernel with the reference under the precondition. -/
theorem claim : Cert.Claim := ⟨Cert.Kernel.Gen.facts, Cert.KernelIdeal.Gen.facts, Cert.ReferenceIdeal.Gen.facts,
  Cert.Run.preFacts_K, Cert.Run.preFacts_R,
  Cert.Run.frame_kernel, Cert.Run.frame_ideal, Cert.Run.frame_ideal_pre,
  Cert.Run.frame_reference, Cert.Run.frame_reference_pre, trivial, Cert.Val.algebraic⟩

end Cert.Proof

end
